-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_groups_in_range [hPre_groups_in_range : Cert.Pre_groups_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_groups_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_in_range [hPre_groups_in_range : Cert.Pre_groups_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_groups_in_range [hKernelIdeal : Cert.KernelIdeal.Facts] [hPre_groups_in_range : Cert.Pre_groups_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_groups_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_groups_in_range [hReferenceIdeal : Cert.ReferenceIdeal.Facts] [hPre_groups_in_range : Cert.Pre_groups_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_groups_in_range [hKernelIdeal : Cert.KernelIdeal.Facts] [hReferenceIdeal : Cert.ReferenceIdeal.Facts] [hPre_groups_in_range : Cert.Pre_groups_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_groups_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41_0) = v0 c
          ∧ r.2.mem ((c.tc : Thread Cert.ReferenceIdeal.nD Cert.ReferenceIdeal.τ).loc Cert.ReferenceIdeal.main_v41_1) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_groups_in_range : Cert.Pre_groups_in_range.Facts),
    quiescent_Kernel (hKernel := hKernel)
    ∧ quiescent_KernelIdeal (hKernelIdeal := hKernelIdeal)
    ∧ quiescent_KernelIdeal_pre_groups_in_range (hKernelIdeal := hKernelIdeal) (hPre_groups_in_range := hPre_groups_in_range)
    ∧ quiescent_ReferenceIdeal (hReferenceIdeal := hReferenceIdeal)
    ∧ quiescent_ReferenceIdeal_pre_groups_in_range (hReferenceIdeal := hReferenceIdeal) (hPre_groups_in_range := hPre_groups_in_range)
    ∧ preserves_Kernel_KernelIdeal
    ∧ algebraic_KernelIdeal_ReferenceIdeal_pre_groups_in_range (hKernelIdeal := hKernelIdeal) (hReferenceIdeal := hReferenceIdeal) (hPre_groups_in_range := hPre_groups_in_range)
-- ==== Pre_groups_in_range.lean ====
abbrev S8x1536x8192 : Shape := ⟨3, ![8, 1536, 8192]⟩
abbrev S16x8192x256 : Shape := ⟨3, ![16, 8192, 256]⟩
abbrev S16x64x2 : Shape := ⟨3, ![16, 64, 2]⟩
abbrev S6144x2x128x64 : Shape := ⟨4, ![6144, 2, 128, 64]⟩
abbrev S_ : Shape := ⟨0, ![]⟩
abbrev S6144x2x128 : Shape := ⟨3, ![6144, 2, 128]⟩
abbrev S6144x1x128 : Shape := ⟨3, ![6144, 1, 128]⟩

class Facts : Prop where
  bitsLt_bf16_f32 : FTy.bits .bf16 < FTy.bits .f32
  shapeCasts_S8x1536x8192_S6144x2x128x64 : S8x1536x8192.ShapeCasts S6144x2x128x64
  reducesTo_S6144x2x128x64_S6144x2x128_d3 : S6144x2x128x64.ReducesTo [3] S6144x2x128
  h_S_ : 0 < S_.numel
  slices_S6144x2x128_S6144x1x128_0_0_0 : S6144x2x128.Slices ![0, 0, 0] S6144x1x128
  slices_S6144x2x128_S6144x1x128_0_1_0 : S6144x2x128.Slices ![0, 1, 0] S6144x1x128
  bcast_S_S6144x1x128 : S_.BroadcastsInDim S6144x1x128 (![] : Fin 0 → Fin S6144x1x128.rank)

variable [Facts]

def fn_part1 {F : FTy → Type} [FloatOps F] (main_v4 : FVec F S6144x1x128 .f32) (main_v5 : FVec F S6144x1x128 .f32) (main_v10 : IVec S6144x1x128 1) (main_v15 : IVec S6144x1x128 1) (main_v17 : IVec S6144x1x128 1) : IVec S6144x1x128 1 :=
  let main_v18 : IVec S6144x1x128 1 := ori main_v15 main_v17
  let main_v19 : IVec S6144x1x128 1 := andi main_v10 main_v18
  let main_cst_5 : FVec F S_ .f32 := constant S_ .f32 0x00000000#32
  let main_v20 : FVec F S6144x1x128 .f32 := broadcastInDim S6144x1x128 ![] bcast_S_S6144x1x128 main_cst_5
  let main_v21 : IVec S6144x1x128 1 := cmpf .oeq main_v4 main_v20
  let main_cst_6 : FVec F S_ .f32 := constant S_ .f32 0x00000000#32
  let main_v22 : FVec F S6144x1x128 .f32 := broadcastInDim S6144x1x128 ![] bcast_S_S6144x1x128 main_cst_6
  let main_v23 : IVec S6144x1x128 1 := cmpf .oeq main_v5 main_v22
  let main_v24 : IVec S6144x1x128 1 := andi main_v21 main_v23
  let main_v25 : IVec S6144x1x128 1 := ori main_v19 main_v24
  main_v25

def fn {F : FTy → Type} [FloatOps F] (main_arg0 : FVec F S8x1536x8192 .bf16) (main_arg1 : FVec F S16x8192x256 .fp8e4m3) (main_arg2 : FVec F S16x64x2 .f32) : IVec S6144x1x128 1 :=
  let main_v0 : FVec F S8x1536x8192 .f32 := (extf .f32 · bitsLt_bf16_f32) main_arg0
  let main_v1 : FVec F S6144x2x128x64 .f32 := shapeCast S6144x2x128x64 main_v0 shapeCasts_S8x1536x8192_S6144x2x128x64
  let main_v2 : FVec F S6144x2x128x64 .f32 := Host.absf main_v1
  let main_cst : FVec F S_ .f32 := constant S_ .f32 0xFF800000#32
  let main_v3 : FVec F S6144x2x128 .f32 := (fun x v => Host.reduce FloatOps.maximumf x v reducesTo_S6144x2x128x64_S6144x2x128_d3 h_S_) main_v2 main_cst
  let main_v4 : FVec F S6144x1x128 .f32 := (extractStridedSlice S6144x1x128 ![0, 0, 0] · slices_S6144x2x128_S6144x1x128_0_0_0) main_v3
  let main_v5 : FVec F S6144x1x128 .f32 := (extractStridedSlice S6144x1x128 ![0, 1, 0] · slices_S6144x2x128_S6144x1x128_0_1_0) main_v3
  let main_cst_0 : FVec F S_ .f32 := constant S_ .f32 0x04E00000#32
  let main_v6 : FVec F S6144x1x128 .f32 := broadcastInDim S6144x1x128 ![] bcast_S_S6144x1x128 main_cst_0
  let main_v7 : IVec S6144x1x128 1 := cmpf .oge main_v4 main_v6
  let main_cst_1 : FVec F S_ .f32 := constant S_ .f32 0x7F7F0000#32
  let main_v8 : FVec F S6144x1x128 .f32 := broadcastInDim S6144x1x128 ![] bcast_S_S6144x1x128 main_cst_1
  let main_v9 : IVec S6144x1x128 1 := cmpf .ole main_v4 main_v8
  let main_v10 : IVec S6144x1x128 1 := andi main_v7 main_v9
  let main_cst_2 : FVec F S_ .f32 := constant S_ .f32 0x04E00000#32
  let main_v11 : FVec F S6144x1x128 .f32 := broadcastInDim S6144x1x128 ![] bcast_S_S6144x1x128 main_cst_2
  let main_v12 : IVec S6144x1x128 1 := cmpf .oge main_v5 main_v11
  let main_cst_3 : FVec F S_ .f32 := constant S_ .f32 0x7F7F0000#32
  let main_v13 : FVec F S6144x1x128 .f32 := broadcastInDim S6144x1x128 ![] bcast_S_S6144x1x128 main_cst_3
  let main_v14 : IVec S6144x1x128 1 := cmpf .ole main_v5 main_v13
  let main_v15 : IVec S6144x1x128 1 := andi main_v12 main_v14
  let main_cst_4 : FVec F S_ .f32 := constant S_ .f32 0x00000000#32
  let main_v16 : FVec F S6144x1x128 .f32 := broadcastInDim S6144x1x128 ![] bcast_S_S6144x1x128 main_cst_4
  let main_v17 : IVec S6144x1x128 1 := cmpf .oeq main_v5 main_v16
  fn_part1 (F := F) main_v4 main_v5 main_v10 main_v15 main_v17
-- ==== Kernel.lean ====
abbrev S8x1536x8192 : Shape := ⟨3, ![8, 1536, 8192]⟩
abbrev S16x8192x256 : Shape := ⟨3, ![16, 8192, 256]⟩
abbrev S16x64x2 : Shape := ⟨3, ![16, 64, 2]⟩
abbrev S16x64x2x128 : Shape := ⟨4, ![16, 64, 2, 128]⟩
abbrev S16x64x256 : Shape := ⟨3, ![16, 64, 256]⟩
abbrev S12288x8192 : Shape := ⟨2, ![12288, 8192]⟩
abbrev S12288x16x256 : Shape := ⟨3, ![12288, 16, 256]⟩
abbrev S12288x128 : Shape := ⟨2, ![12288, 128]⟩
abbrev S256x8192 : Shape := ⟨2, ![256, 8192]⟩
abbrev S256x16x256 : Shape := ⟨3, ![256, 16, 256]⟩
abbrev S256x128 : Shape := ⟨2, ![256, 128]⟩
abbrev S32x128 : Shape := ⟨2, ![32, 128]⟩
abbrev S32 : Shape := ⟨1, ![32]⟩
abbrev S32x1 : Shape := ⟨2, ![32, 1]⟩
abbrev S16x128 : Shape := ⟨2, ![16, 128]⟩
abbrev S256x256 : Shape := ⟨2, ![256, 256]⟩
abbrev S1x16x256 : Shape := ⟨3, ![1, 16, 256]⟩
abbrev S16x256 : Shape := ⟨2, ![16, 256]⟩
abbrev S1x2048x256 : Shape := ⟨3, ![1, 2048, 256]⟩
abbrev S2048x256 : Shape := ⟨2, ![2048, 256]⟩
abbrev S16x128x256 : Shape := ⟨3, ![16, 128, 256]⟩
abbrev S16x1x256 : Shape := ⟨3, ![16, 1, 256]⟩
abbrev S256x2048 : Shape := ⟨2, ![256, 2048]⟩
abbrev S256x1x256 : Shape := ⟨3, ![256, 1, 256]⟩
abbrev S256x2x256 : Shape := ⟨3, ![256, 2, 256]⟩

abbrev nBuf : Space → Nat
  | .hbm => 10
  | .vmem => 11
  | .smem => 0
  | _ => 0

abbrev bufTy : (tb : Table) → Fin (tcTables nBuf tb) → BufTy
  | .hbm, ⟨0, _⟩ => ⟨S8x1536x8192, .bf16⟩
  | .hbm, ⟨1, _⟩ => ⟨S16x8192x256, .fp8e4m3⟩
  | .hbm, ⟨2, _⟩ => ⟨S16x64x2, .f32⟩
  | .hbm, ⟨3, _⟩ => ⟨S16x64x2, .bf16⟩
  | .hbm, ⟨4, _⟩ => ⟨S16x64x2x128, .bf16⟩
  | .hbm, ⟨5, _⟩ => ⟨S16x64x256, .bf16⟩
  | .hbm, ⟨6, _⟩ => ⟨S12288x8192, .bf16⟩
  | .hbm, ⟨7, _⟩ => ⟨S12288x16x256, .bf16⟩
  | .hbm, ⟨8, _⟩ => ⟨S12288x8192, .fp8e4m3⟩
  | .hbm, ⟨9, _⟩ => ⟨S12288x128, .f32⟩
  | .local _ .vmem, ⟨0, _⟩ => ⟨S16x64x256, .bf16⟩
  | .local _ .vmem, ⟨1, _⟩ => ⟨S256x8192, .bf16⟩
  | .local _ .vmem, ⟨2, _⟩ => ⟨S256x8192, .bf16⟩
  | .local _ .vmem, ⟨3, _⟩ => ⟨S16x8192x256, .fp8e4m3⟩
  | .local _ .vmem, ⟨4, _⟩ => ⟨S256x16x256, .bf16⟩
  | .local _ .vmem, ⟨5, _⟩ => ⟨S256x16x256, .bf16⟩
  | .local _ .vmem, ⟨6, _⟩ => ⟨S256x8192, .fp8e4m3⟩
  | .local _ .vmem, ⟨7, _⟩ => ⟨S256x8192, .fp8e4m3⟩
  | .local _ .vmem, ⟨8, _⟩ => ⟨S256x128, .f32⟩
  | .local _ .vmem, ⟨9, _⟩ => ⟨S256x128, .f32⟩
  | .local _ .vmem, ⟨10, _⟩ => ⟨S256x8192, .bf16⟩
  | _, _ => ⟨S8x1536x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![48], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  v914
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v917 : Index := Scalar.indexCast v915
  let c0_619 : Index := 0#32
  ![v917.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v1034 : Index := Scalar.indexCast v915
  let c128 : Index := 128#32
  ![v1034.toNat, 128]
def k0_off3 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v1151 : Index := Scalar.indexCast v915
  let c256 : Index := 256#32
  ![v1151.toNat, 256]
def k0_off4 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v1268 : Index := Scalar.indexCast v915
  let c384 : Index := 384#32
  ![v1268.toNat, 384]
def k0_off5 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v1385 : Index := Scalar.indexCast v915
  let c512 : Index := 512#32
  ![v1385.toNat, 512]
def k0_off6 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v1502 : Index := Scalar.indexCast v915
  let c640 : Index := 640#32
  ![v1502.toNat, 640]
def k0_off7 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v1619 : Index := Scalar.indexCast v915
  let c768 : Index := 768#32
  ![v1619.toNat, 768]
def k0_off8 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v1736 : Index := Scalar.indexCast v915
  let c896 : Index := 896#32
  ![v1736.toNat, 896]
def k0_off9 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v1853 : Index := Scalar.indexCast v915
  let c1024 : Index := 1024#32
  ![v1853.toNat, 1024]
def k0_off10 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v1970 : Index := Scalar.indexCast v915
  let c1152 : Index := 1152#32
  ![v1970.toNat, 1152]
def k0_off11 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v2087 : Index := Scalar.indexCast v915
  let c1280 : Index := 1280#32
  ![v2087.toNat, 1280]
def k0_off12 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v2204 : Index := Scalar.indexCast v915
  let c1408 : Index := 1408#32
  ![v2204.toNat, 1408]
def k0_off13 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v2321 : Index := Scalar.indexCast v915
  let c1536 : Index := 1536#32
  ![v2321.toNat, 1536]
def k0_off14 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v2438 : Index := Scalar.indexCast v915
  let c1664 : Index := 1664#32
  ![v2438.toNat, 1664]
def k0_off15 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v2555 : Index := Scalar.indexCast v915
  let c1792 : Index := 1792#32
  ![v2555.toNat, 1792]
def k0_off16 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v2672 : Index := Scalar.indexCast v915
  let c1920 : Index := 1920#32
  ![v2672.toNat, 1920]
def k0_off17 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v2789 : Index := Scalar.indexCast v915
  let c2048_1039 : Index := 2048#32
  ![v2789.toNat, 2048]
def k0_off18 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v2906 : Index := Scalar.indexCast v915
  let c2176 : Index := 2176#32
  ![v2906.toNat, 2176]
def k0_off19 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v3023 : Index := Scalar.indexCast v915
  let c2304 : Index := 2304#32
  ![v3023.toNat, 2304]
def k0_off20 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v3140 : Index := Scalar.indexCast v915
  let c2432 : Index := 2432#32
  ![v3140.toNat, 2432]
def k0_off21 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v3257 : Index := Scalar.indexCast v915
  let c2560 : Index := 2560#32
  ![v3257.toNat, 2560]
def k0_off22 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v3374 : Index := Scalar.indexCast v915
  let c2688 : Index := 2688#32
  ![v3374.toNat, 2688]
def k0_off23 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v3491 : Index := Scalar.indexCast v915
  let c2816 : Index := 2816#32
  ![v3491.toNat, 2816]
def k0_off24 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v3608 : Index := Scalar.indexCast v915
  let c2944 : Index := 2944#32
  ![v3608.toNat, 2944]
def k0_off25 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v3725 : Index := Scalar.indexCast v915
  let c3072 : Index := 3072#32
  ![v3725.toNat, 3072]
def k0_off26 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v3842 : Index := Scalar.indexCast v915
  let c3200 : Index := 3200#32
  ![v3842.toNat, 3200]
def k0_off27 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v3959 : Index := Scalar.indexCast v915
  let c3328 : Index := 3328#32
  ![v3959.toNat, 3328]
def k0_off28 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v4076 : Index := Scalar.indexCast v915
  let c3456 : Index := 3456#32
  ![v4076.toNat, 3456]
def k0_off29 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v4193 : Index := Scalar.indexCast v915
  let c3584 : Index := 3584#32
  ![v4193.toNat, 3584]
def k0_off30 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v4310 : Index := Scalar.indexCast v915
  let c3712 : Index := 3712#32
  ![v4310.toNat, 3712]
def k0_off31 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v4427 : Index := Scalar.indexCast v915
  let c3840 : Index := 3840#32
  ![v4427.toNat, 3840]
def k0_off32 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v4544 : Index := Scalar.indexCast v915
  let c3968 : Index := 3968#32
  ![v4544.toNat, 3968]
def k0_off33 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v4661 : Index := Scalar.indexCast v915
  let c4096_1473 : Index := 4096#32
  ![v4661.toNat, 4096]
def k0_off34 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v4778 : Index := Scalar.indexCast v915
  let c4224 : Index := 4224#32
  ![v4778.toNat, 4224]
def k0_off35 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v4895 : Index := Scalar.indexCast v915
  let c4352 : Index := 4352#32
  ![v4895.toNat, 4352]
def k0_off36 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v5012 : Index := Scalar.indexCast v915
  let c4480 : Index := 4480#32
  ![v5012.toNat, 4480]
def k0_off37 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v5129 : Index := Scalar.indexCast v915
  let c4608 : Index := 4608#32
  ![v5129.toNat, 4608]
def k0_off38 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v5246 : Index := Scalar.indexCast v915
  let c4736 : Index := 4736#32
  ![v5246.toNat, 4736]
def k0_off39 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v5363 : Index := Scalar.indexCast v915
  let c4864 : Index := 4864#32
  ![v5363.toNat, 4864]
def k0_off40 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v5480 : Index := Scalar.indexCast v915
  let c4992 : Index := 4992#32
  ![v5480.toNat, 4992]
def k0_off41 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v5597 : Index := Scalar.indexCast v915
  let c5120 : Index := 5120#32
  ![v5597.toNat, 5120]
def k0_off42 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v5714 : Index := Scalar.indexCast v915
  let c5248 : Index := 5248#32
  ![v5714.toNat, 5248]
def k0_off43 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v5831 : Index := Scalar.indexCast v915
  let c5376 : Index := 5376#32
  ![v5831.toNat, 5376]
def k0_off44 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v5948 : Index := Scalar.indexCast v915
  let c5504 : Index := 5504#32
  ![v5948.toNat, 5504]
def k0_off45 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v6065 : Index := Scalar.indexCast v915
  let c5632 : Index := 5632#32
  ![v6065.toNat, 5632]
def k0_off46 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v6182 : Index := Scalar.indexCast v915
  let c5760 : Index := 5760#32
  ![v6182.toNat, 5760]
def k0_off47 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v6299 : Index := Scalar.indexCast v915
  let c5888 : Index := 5888#32
  ![v6299.toNat, 5888]
def k0_off48 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v6416 : Index := Scalar.indexCast v915
  let c6016 : Index := 6016#32
  ![v6416.toNat, 6016]
def k0_off49 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v6533 : Index := Scalar.indexCast v915
  let c6144_1907 : Index := 6144#32
  ![v6533.toNat, 6144]
def k0_off50 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v6650 : Index := Scalar.indexCast v915
  let c6272 : Index := 6272#32
  ![v6650.toNat, 6272]
def k0_off51 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v6767 : Index := Scalar.indexCast v915
  let c6400 : Index := 6400#32
  ![v6767.toNat, 6400]
def k0_off52 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v6884 : Index := Scalar.indexCast v915
  let c6528 : Index := 6528#32
  ![v6884.toNat, 6528]
def k0_off53 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v7001 : Index := Scalar.indexCast v915
  let c6656 : Index := 6656#32
  ![v7001.toNat, 6656]
def k0_off54 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v7118 : Index := Scalar.indexCast v915
  let c6784 : Index := 6784#32
  ![v7118.toNat, 6784]
def k0_off55 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v7235 : Index := Scalar.indexCast v915
  let c6912 : Index := 6912#32
  ![v7235.toNat, 6912]
def k0_off56 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v7352 : Index := Scalar.indexCast v915
  let c7040 : Index := 7040#32
  ![v7352.toNat, 7040]
def k0_off57 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v7469 : Index := Scalar.indexCast v915
  let c7168 : Index := 7168#32
  ![v7469.toNat, 7168]
def k0_off58 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v7586 : Index := Scalar.indexCast v915
  let c7296 : Index := 7296#32
  ![v7586.toNat, 7296]
def k0_off59 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v7703 : Index := Scalar.indexCast v915
  let c7424 : Index := 7424#32
  ![v7703.toNat, 7424]
def k0_off60 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v7820 : Index := Scalar.indexCast v915
  let c7552 : Index := 7552#32
  ![v7820.toNat, 7552]
def k0_off61 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v7937 : Index := Scalar.indexCast v915
  let c7680 : Index := 7680#32
  ![v7937.toNat, 7680]
def k0_off62 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v8054 : Index := Scalar.indexCast v915
  let c7808 : Index := 7808#32
  ![v8054.toNat, 7808]
def k0_off63 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v8171 : Index := Scalar.indexCast v915
  let c7936 : Index := 7936#32
  ![v8171.toNat, 7936]
def k0_off64 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v8288 : Index := Scalar.indexCast v915
  let c8064 : Index := 8064#32
  ![v8288.toNat, 8064]
def k0_off65 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v914 : BitVec 32 := Scalar.muli arg8 c32_i32
  let v915 : BitVec 32 := v914
  let v8405 : Index := Scalar.indexCast v915
  let c0_2340 : Index := 0#32
  ![v8405.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x64x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x8192x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8192 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x1536x8192 : Shape := ⟨3, ![8, 1536, 8192]⟩
abbrev S16x8192x256 : Shape := ⟨3, ![16, 8192, 256]⟩
abbrev S16x64x2 : Shape := ⟨3, ![16, 64, 2]⟩
abbrev S12288x128x64 : Shape := ⟨3, ![12288, 128, 64]⟩
abbrev S_ : Shape := ⟨0, ![]⟩
abbrev S12288x128 : Shape := ⟨2, ![12288, 128]⟩
abbrev S247 : Shape := ⟨1, ![247]⟩
abbrev S12288x128x1 : Shape := ⟨3, ![12288, 128, 1]⟩
abbrev S1x1x247 : Shape := ⟨3, ![1, 1, 247]⟩
abbrev S12288x128x247 : Shape := ⟨3, ![12288, 128, 247]⟩
abbrev S12288x8192 : Shape := ⟨2, ![12288, 8192]⟩
abbrev S16x64x128x2 : Shape := ⟨4, ![16, 64, 128, 2]⟩
abbrev S16x8192x2 : Shape := ⟨3, ![16, 8192, 2]⟩
abbrev S16x8192x2x128 : Shape := ⟨4, ![16, 8192, 2, 128]⟩
abbrev S8192x16x256 : Shape := ⟨3, ![8192, 16, 256]⟩
abbrev S8192x4096 : Shape := ⟨2, ![8192, 4096]⟩
abbrev S12288x16x256 : Shape := ⟨3, ![12288, 16, 256]⟩
abbrev S12288x4096 : Shape := ⟨2, ![12288, 4096]⟩

abbrev nBuf : Space → Nat
  | .hbm => 67
  | .vmem => 6
  | .smem => 0
  | _ => 0

abbrev bufTy : (tb : Table) → Fin (tcTables nBuf tb) → BufTy
  | .hbm, ⟨0, _⟩ => ⟨S8x1536x8192, .bf16⟩
  | .hbm, ⟨1, _⟩ => ⟨S16x8192x256, .fp8e4m3⟩
  | .hbm, ⟨2, _⟩ => ⟨S16x64x2, .f32⟩
  | .hbm, ⟨3, _⟩ => ⟨S8x1536x8192, .f32⟩
  | .hbm, ⟨4, _⟩ => ⟨S12288x128x64, .f32⟩
  | .hbm, ⟨5, _⟩ => ⟨S12288x128x64, .f32⟩
  | .hbm, ⟨6, _⟩ => ⟨S_, .f32⟩
  | .hbm, ⟨7, _⟩ => ⟨S12288x128, .f32⟩
  | .hbm, ⟨8, _⟩ => ⟨S_, .f32⟩
  | .hbm, ⟨9, _⟩ => ⟨S247, .f32⟩
  | .hbm, ⟨10, _⟩ => ⟨S247, .i32⟩
  | .hbm, ⟨11, _⟩ => ⟨S_, .i32⟩
  | .hbm, ⟨12, _⟩ => ⟨S247, .i32⟩
  | .hbm, ⟨13, _⟩ => ⟨S247, .i32⟩
  | .hbm, ⟨14, _⟩ => ⟨S247, .f32⟩
  | .hbm, ⟨15, _⟩ => ⟨S247, .f32⟩
  | .hbm, ⟨16, _⟩ => ⟨S_, .f32⟩
  | .hbm, ⟨17, _⟩ => ⟨S247, .f32⟩
  | .hbm, ⟨18, _⟩ => ⟨S247, .f32⟩
  | .hbm, ⟨19, _⟩ => ⟨S12288x128x1, .f32⟩
  | .hbm, ⟨20, _⟩ => ⟨S1x1x247, .f32⟩
  | .hbm, ⟨21, _⟩ => ⟨S12288x128x247, .f32⟩
  | .hbm, ⟨22, _⟩ => ⟨S12288x128x247, .f32⟩
  | .hbm, ⟨23, _⟩ => ⟨S12288x128x247, .i1⟩
  | .hbm, ⟨24, _⟩ => ⟨S_, .f32⟩
  | .hbm, ⟨25, _⟩ => ⟨S_, .f32⟩
  | .hbm, ⟨26, _⟩ => ⟨S12288x128x247, .f32⟩
  | .hbm, ⟨27, _⟩ => ⟨S12288x128x247, .f32⟩
  | .hbm, ⟨28, _⟩ => ⟨S12288x128x247, .f32⟩
  | .hbm, ⟨29, _⟩ => ⟨S_, .f32⟩
  | .hbm, ⟨30, _⟩ => ⟨S12288x128, .f32⟩
  | .hbm, ⟨31, _⟩ => ⟨S_, .f32⟩
  | .hbm, ⟨32, _⟩ => ⟨S12288x128, .f32⟩
  | .hbm, ⟨33, _⟩ => ⟨S12288x128, .i1⟩
  | .hbm, ⟨34, _⟩ => ⟨S_, .f32⟩
  | .hbm, ⟨35, _⟩ => ⟨S_, .f32⟩
  | .hbm, ⟨36, _⟩ => ⟨S12288x128, .f32⟩
  | .hbm, ⟨37, _⟩ => ⟨S12288x128, .f32⟩
  | .hbm, ⟨38, _⟩ => ⟨S_, .f32⟩
  | .hbm, ⟨39, _⟩ => ⟨S12288x128, .f32⟩
  | .hbm, ⟨40, _⟩ => ⟨S12288x128, .f32⟩
  | .hbm, ⟨41, _⟩ => ⟨S12288x128x1, .f32⟩
  | .hbm, ⟨42, _⟩ => ⟨S12288x128x64, .f32⟩
  | .hbm, ⟨43, _⟩ => ⟨S12288x128x64, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S12288x128x64, .f32⟩
  | .hbm, ⟨48, _⟩ => ⟨S12288x128x64, .f32⟩
  | .hbm, ⟨49, _⟩ => ⟨S_, .f32⟩
  | .hbm, ⟨50, _⟩ => ⟨S12288x128x64, .f32⟩
  | .hbm, ⟨51, _⟩ => ⟨S12288x128x64, .f32⟩
  | .hbm, ⟨52, _⟩ => ⟨S12288x8192, .f32⟩
  | .hbm, ⟨53, _⟩ => ⟨S12288x128, .bf16⟩
  | .hbm, ⟨54, _⟩ => ⟨S12288x128x64, .bf16⟩
  | .hbm, ⟨55, _⟩ => ⟨S12288x8192, .bf16⟩
  | .hbm, ⟨56, _⟩ => ⟨S16x64x2, .bf16⟩
  | .hbm, ⟨57, _⟩ => ⟨S16x64x128x2, .bf16⟩
  | .hbm, ⟨58, _⟩ => ⟨S16x8192x2, .bf16⟩
  | .hbm, ⟨59, _⟩ => ⟨S16x8192x2x128, .bf16⟩
  | .hbm, ⟨60, _⟩ => ⟨S16x8192x256, .bf16⟩
  | .hbm, ⟨61, _⟩ => ⟨S8192x16x256, .fp8e4m3⟩
  | .hbm, ⟨62, _⟩ => ⟨S8192x4096, .fp8e4m3⟩
  | .hbm, ⟨63, _⟩ => ⟨S8192x16x256, .bf16⟩
  | .hbm, ⟨64, _⟩ => ⟨S8192x4096, .bf16⟩
  | .hbm, ⟨65, _⟩ => ⟨S12288x16x256, .bf16⟩
  | .hbm, ⟨66, _⟩ => ⟨S12288x8192, .fp8e4m3⟩
  | .local _ .vmem, ⟨0, _⟩ => ⟨S12288x8192, .f32⟩
  | .local _ .vmem, ⟨1, _⟩ => ⟨S12288x8192, .bf16⟩
  | .local _ .vmem, ⟨2, _⟩ => ⟨S8192x4096, .fp8e4m3⟩
  | .local _ .vmem, ⟨3, _⟩ => ⟨S8192x4096, .bf16⟩
  | .local _ .vmem, ⟨4, _⟩ => ⟨S12288x16x256, .bf16⟩
  | .local _ .vmem, ⟨5, _⟩ => ⟨S12288x8192, .fp8e4m3⟩
  | _, _ => ⟨S8x1536x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_call1_v0 : Ref sig .tc := ⟨.hbm, 35, rfl⟩
abbrev main_call1_v1 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_cst_8 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41_0 : Ref sig .tc := ⟨.hbm, 65, rfl⟩
abbrev main_v41_1 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12288x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x16x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Head.lean ====
/- WHAT ONE HEAD'S PRODUCT COMPUTES. For each head the kernel multiplies the dequantised rows by the head's weights in four
   chunks of 2048 columns, each chunk of weights dequantised first, and adds the four products. A head's result is
   one row of the middle axis of the block of results; two heads share a word, so a store of one head rewrites its
   neighbour's row with what was there. -/
module

public import proofs.«01_k».proof.Proof.Gen.KernelIdeal.Skeleton
public import Idealize.ShloMosaic.Lib.WritesUnit
public import Idealize.ShloMosaic.Lib.ValueIdxCore

@[expose] public section

set_option maxRecDepth 16384

noncomputable section

namespace Cert.KernelIdeal.Head

open Cert.KernelIdeal Cert.KernelIdeal.Gen
open Idealize.ShloMosaic Idealize.ShloMosaic.TcCoe
open Idealize.SL.Sem

variable {F : FTy → Type} [FloatOps F]

/-- A chunk of a head's weights, dequantised. -/
def chunk (s : Vec F S1x16x256 .bf16) (w : Vec F S1x2048x256 .fp8e4m3) : FVec F S2048x256 .bf16 :=
  shapeCast S2048x256
    (mulf
      (shapeCast S16x128x256 (extf .bf16 (shapeCast S2048x256 w shapeCasts_S1x2048x256_S2048x256 : FVec F S2048x256 .fp8e4m3) bitsLt_fp8e4m3_bf16)
        shapeCasts_S2048x256_S16x128x256 : FVec F S16x128x256 .bf16)
      (broadcastTo S16x128x256 (shapeCast S16x1x256 (shapeCast S16x256 s shapeCasts_S1x16x256_S16x256) shapeCasts_S16x256_S16x1x256)
        broadcasts_S16x1x256_S16x128x256))
    shapeCasts_S16x128x256_S2048x256

/-- One chunk's product added to what the chunks before gave. -/
def addChunk (acc : FVec F S256x256 .f32) (s : Vec F S1x16x256 .bf16) (w : Vec F S1x2048x256 .fp8e4m3) (x : Vec F S256x2048 .bf16) :
    FVec F S256x256 .f32 :=
  addf acc (matmul dot_S256x2048_S2048x256_S256x256_1_0_0_1_n_n none x (chunk s w) (constant S256x256 .f32 0x00000000#32))

/-- A head's result. -/
def head (s0 s1 s2 s3 : Vec F S1x16x256 .bf16) (w0 w1 w2 w3 : Vec F S1x2048x256 .fp8e4m3) (x0 x1 x2 x3 : Vec F S256x2048 .bf16) :
    FVec F S256x1x256 .bf16 :=
  shapeCast S256x1x256 (truncf .bf16 (addChunk (addChunk (addChunk (addChunk
    (broadcast S256x256 (Scalar.ofBits .f32 0x00000000#32 : F .f32)) s0 w0 x0) s1 w1 x1) s2 w2 x2) s3 w3 x3) bitsLt_bf16_f32)
    shapeCasts_S256x256_S256x1x256

/-- Chunk `k` of head `h`'s scales. -/
def sCut (A : S16x64x256.Idx → Elt F .bf16) (h k : ℕ) : Vec F S1x16x256 .bf16 :=
  fun x => A (ValueIdx.ix3 ⟨h % 16, Nat.mod_lt _ (by decide)⟩ ⟨(16 * k + (x 1).val) % 64, Nat.mod_lt _ (by decide)⟩ (x 2))

/-- Chunk `k` of head `h`'s weights. -/
def wCut (A : S16x8192x256.Idx → Elt F .fp8e4m3) (h k : ℕ) : Vec F S1x2048x256 .fp8e4m3 :=
  fun x => A (ValueIdx.ix3 ⟨h % 16, Nat.mod_lt _ (by decide)⟩ ⟨(2048 * k + (x 1).val) % 8192, Nat.mod_lt _ (by decide)⟩ (x 2))

/-- Chunk `k` of the rows' columns. -/
def xCut (A : S256x8192.Idx → Elt F .bf16) (k : ℕ) : Vec F S256x2048 .bf16 :=
  fun x => A (ValueIdx.ix2 (x 0) ⟨(2048 * k + (x 1).val) % 8192, Nat.mod_lt _ (by decide)⟩)

/-- Head `h`'s result from the whole arrays. -/
def headAt (S : S16x64x256.Idx → Elt F .bf16) (W : S16x8192x256.Idx → Elt F .fp8e4m3) (D : S256x8192.Idx → Elt F .bf16) (h : ℕ) :
    FVec F S256x1x256 .bf16 :=
  head (sCut S h 0) (sCut S h 1) (sCut S h 2) (sCut S h 3) (wCut W h 0) (wCut W h 1) (wCut W h 2) (wCut W h 3)
    (xCut D 0) (xCut D 1) (xCut D 2) (xCut D 3)

/-- The block of results. -/
def out (S : S16x64x256.Idx → Elt F .bf16) (W : S16x8192x256.Idx → Elt F .fp8e4m3) (D : S256x8192.Idx → Elt F .bf16) :
    S256x16x256.Idx → Elt F .bf16 :=
  fun y => headAt S W D (y 1).val (ValueIdx.ix3 (y 0) 0 (y 2))

theorem readAt_sCut {sp : Space} (v : View sig .tc sp S16x64x256 .bf16) (X : BufTy.Contents (Elt F) v.ty) (h k k' : ℕ) (hk : k' = 16 * k)
    (inb : ∀ a, (![h, k', 0] : Fin 3 → ℕ) a + S1x16x256.size a ≤ S16x64x256.size a) :
    v.readAt (Elt F) (Rect.unit (s := S16x64x256) ![h, k', 0] S1x16x256.size inb).toLoadRect X = sCut (v.read (Elt F) X) h k := by
  subst hk
  have h0 : h + 1 ≤ 16 := inb 0
  have h1 : 16 * k + 16 ≤ 64 := inb 1
  funext x
  have hx0 : (x 0).val < 1 := (x 0).isLt
  have hx1 : (x 1).val < 16 := (x 1).isLt
  refine congrArg (v.read (Elt F) X) (funext fun a => Fin.ext ?_)
  match a with
  | 0 => show h + 1 * (x 0).val = h % 16; omega
  | 1 => show 16 * k + 1 * (x 1).val = (16 * k + (x 1).val) % 64; omega
  | 2 => show 0 + 1 * (x 2).val = (x 2).val; omega

theorem readAt_wCut {sp : Space} (v : View sig .tc sp S16x8192x256 .fp8e4m3) (X : BufTy.Contents (Elt F) v.ty) (h k k' : ℕ) (hk : k' = 2048 * k)
    (inb : ∀ a, (![h, k', 0] : Fin 3 → ℕ) a + S1x2048x256.size a ≤ S16x8192x256.size a) :
    v.readAt (Elt F) (Rect.unit (s := S16x8192x256) ![h, k', 0] S1x2048x256.size inb).toLoadRect X = wCut (v.read (Elt F) X) h k := by
  subst hk
  have h0 : h + 1 ≤ 16 := inb 0
  have h1 : 2048 * k + 2048 ≤ 8192 := inb 1
  funext x
  have hx0 : (x 0).val < 1 := (x 0).isLt
  have hx1 : (x 1).val < 2048 := (x 1).isLt
  refine congrArg (v.read (Elt F) X) (funext fun a => Fin.ext ?_)
  match a with
  | 0 => show h + 1 * (x 0).val = h % 16; omega
  | 1 => show 2048 * k + 1 * (x 1).val = (2048 * k + (x 1).val) % 8192; omega
  | 2 => show 0 + 1 * (x 2).val = (x 2).val; omega

theorem readAt_xCut {sp : Space} (v : View sig .tc sp S256x8192 .bf16) (X : BufTy.Contents (Elt F) v.ty) (k k' : ℕ) (hk : k' = 2048 * k)
    (inb : ∀ a, (![0, k'] : Fin 2 → ℕ) a + S256x2048.size a ≤ S256x8192.size a) :
    v.readAt (Elt F) (Rect.unit (s := S256x8192) ![0, k'] S256x2048.size inb).toLoadRect X = xCut (v.read (Elt F) X) k := by
  subst hk
  have h1 : 2048 * k + 2048 ≤ 8192 := inb 1
  funext x
  have hx1 : (x 1).val < 2048 := (x 1).isLt
  refine congrArg (v.read (Elt F) X) (funext fun a => Fin.ext ?_)
  match a with
  | 0 => show 0 + 1 * (x 0).val = (x 0).val; omega
  | 1 => show 2048 * k + 1 * (x 1).val = (2048 * k + (x 1).val) % 8192; omega

/-- The stores of the heads before `n`, over contents `f`, leave those heads' results. -/
def Done {sp : Space} (v : View sig .tc sp S256x16x256 .bf16) (f : BufTy.Contents (Elt F) v.ty) (G : ℕ → FVec F S256x1x256 .bf16) (n : ℕ)
    (L : List (View.Piece (Elt F) S256x16x256 .bf16)) : Prop :=
  ∀ y : S256x16x256.Idx, (y 1).val < n → v.read (Elt F) (v.writes (Elt F) f L) y = G (y 1).val (ValueIdx.ix3 (y 0) 0 (y 2))

theorem done_nil {sp : Space} (v : View sig .tc sp S256x16x256 .bf16) (f : BufTy.Contents (Elt F) v.ty) (G : ℕ → FVec F S256x1x256 .bf16) :
    Done v f G 0 [] := fun _ h => absurd h (Nat.not_lt_zero _)

/-- The first head of a word. -/
theorem done_even {sp : Space} {v : View sig .tc sp S256x16x256 .bf16} {f : BufTy.Contents (Elt F) v.ty} {G : ℕ → FVec F S256x1x256 .bf16}
    {n : ℕ} {L : List (View.Piece (Elt F) S256x16x256 .bf16)} (hL : Done v f G n L)
    (inb : ∀ a, (![0, n, 0] : Fin 3 → ℕ) a + S256x2x256.size a ≤ S256x16x256.size a) (old : S256x2x256.Idx → Elt F .bf16)
    (w : FVec F S256x1x256 .bf16) (hs : S256x2x256.Slices ![0, 0, 0] S256x1x256) (hw : w = G n) :
    Done v f G (n + 1) (⟨Rect.unit (s := S256x16x256) ![0, n, 0] S256x2x256.size inb, updateSlice old w ![0, 0, 0] hs⟩ :: L) := by
  intro y hy
  have y0 : (y 0).val < 256 := (y 0).isLt
  have y2 : (y 2).val < 256 := (y 2).isLt
  by_cases hn : (y 1).val < n
  · exact (View.read_writes_cons_unit_of_not_mem v f inb _ L y rfl 1 (.inl hn)).trans (hL y hn)
  · have e : (y 1).val = n := by omega
    refine (View.read_writes_cons_unit_of_mem v f inb _ L y (ValueIdx.ix3 (y 0) (0 : Fin 2) (y 2)) rfl fun a => ?_).trans ?_
    · match a with
      | 0 => show (y 0).val = 0 + (y 0).val; omega
      | 1 => show (y 1).val = n + 0; omega
      | 2 => show (y 2).val = 0 + (y 2).val; omega
    · rw [e, ← hw]
      unfold updateSlice
      rw [dif_pos (fun a => by
        match a with
        | 0 => exact ⟨Nat.zero_le _, by show (y 0).val < 0 + 256; omega⟩
        | 1 => exact ⟨Nat.zero_le _, by show 0 < 0 + 1; omega⟩
        | 2 => exact ⟨Nat.zero_le _, by show (y 2).val < 0 + 256; omega⟩)]
      refine congrArg w (funext fun a => Fin.ext ?_)
      match a with
      | 0 => rfl
      | 1 => rfl
      | 2 => rfl

/-- The second head of a word: the first one's row is stored back as it was. -/
theorem done_odd {sp : Space} {v : View sig .tc sp S256x16x256 .bf16} {f : BufTy.Contents (Elt F) v.ty} {G : ℕ → FVec F S256x1x256 .bf16}
    {n : ℕ} {L : List (View.Piece (Elt F) S256x16x256 .bf16)} (hL : Done v f G (n + 1) L)
    (inb : ∀ a, (![0, n, 0] : Fin 3 → ℕ) a + S256x2x256.size a ≤ S256x16x256.size a) (old : S256x2x256.Idx → Elt F .bf16)
    (w : FVec F S256x1x256 .bf16) (hs : S256x2x256.Slices ![0, 1, 0] S256x1x256) (hw : w = G (n + 1))
    (hold : ∀ x : S256x2x256.Idx, (x 1).val = 0 → old x = v.read (Elt F) (v.writes (Elt F) f L) ((Rect.unit (s := S256x16x256) ![0, n, 0] S256x2x256.size inb).idx x)) :
    Done v f G (n + 2) (⟨Rect.unit (s := S256x16x256) ![0, n, 0] S256x2x256.size inb, updateSlice old w ![0, 1, 0] hs⟩ :: L) := by
  intro y hy
  have y0 : (y 0).val < 256 := (y 0).isLt
  have y2 : (y 2).val < 256 := (y 2).isLt
  by_cases hn : (y 1).val < n
  · exact (View.read_writes_cons_unit_of_not_mem v f inb _ L y rfl 1 (.inl hn)).trans (hL y (by omega))
  · by_cases hn' : (y 1).val = n
    · refine (View.read_writes_cons_unit_of_mem v f inb _ L y (ValueIdx.ix3 (y 0) (0 : Fin 2) (y 2)) rfl fun a => ?_).trans ?_
      · match a with
        | 0 => show (y 0).val = 0 + (y 0).val; omega
        | 1 => show (y 1).val = n + 0; omega
        | 2 => show (y 2).val = 0 + (y 2).val; omega
      · unfold updateSlice
        rw [dif_neg (fun h => by have h1 : 1 ≤ 0 := (h 1).1; omega), hold _ rfl]
        have e : (Rect.unit (s := S256x16x256) ![0, n, 0] S256x2x256.size inb).idx (ValueIdx.ix3 (y 0) (0 : Fin 2) (y 2)) = y := funext fun a => Fin.ext (by
          match a with
          | 0 => show 0 + 1 * (y 0).val = (y 0).val; omega
          | 1 => show n + 1 * 0 = (y 1).val; omega
          | 2 => show 0 + 1 * (y 2).val = (y 2).val; omega)
        rw [e]
        exact hL y (by omega)
    · have e : (y 1).val = n + 1 := by omega
      refine (View.read_writes_cons_unit_of_mem v f inb _ L y (ValueIdx.ix3 (y 0) (1 : Fin 2) (y 2)) rfl fun a => ?_).trans ?_
      · match a with
        | 0 => show (y 0).val = 0 + (y 0).val; omega
        | 1 => show (y 1).val = n + 1; omega
        | 2 => show (y 2).val = 0 + (y 2).val; omega
      · rw [e, ← hw]
        unfold updateSlice
        rw [dif_pos (fun a => by
          match a with
          | 0 => exact ⟨Nat.zero_le _, by show (y 0).val < 0 + 256; omega⟩
          | 1 => exact ⟨Nat.le_refl _, by show 1 < 1 + 1; omega⟩
          | 2 => exact ⟨Nat.zero_le _, by show (y 2).val < 0 + 256; omega⟩)]
        refine congrArg w (funext fun a => Fin.ext ?_)
        match a with
        | 0 => rfl
        | 1 => rfl
        | 2 => rfl

/-- The second head of a word, its word read back from the stores before it. -/
theorem done_odd_cov {sp : Space} {v : View sig .tc sp S256x16x256 .bf16} {f : BufTy.Contents (Elt F) v.ty} {G : ℕ → FVec F S256x1x256 .bf16}
    {n : ℕ} {L L' : List (View.Piece (Elt F) S256x16x256 .bf16)} (hL : Done v f G (n + 1) L)
    (inb : ∀ a, (![0, n, 0] : Fin 3 → ℕ) a + S256x2x256.size a ≤ S256x16x256.size a) (old : S256x2x256.Idx → Elt F .bf16)
    (w : FVec F S256x1x256 .bf16) (hs : S256x2x256.Slices ![0, 1, 0] S256x1x256) (hw : w = G (n + 1))
    (w' : S256x2x256.Idx → Elt F .bf16)
    (hold : old = v.readCov (Val := Elt F) L (Rect.unit (s := S256x16x256) ![0, n, 0] S256x2x256.size inb).toLoadRect)
    (hL' : L = ⟨Rect.unit (s := S256x16x256) ![0, n, 0] S256x2x256.size inb, w'⟩ :: L') :
    Done v f G (n + 2) (⟨Rect.unit (s := S256x16x256) ![0, n, 0] S256x2x256.size inb, updateSlice old w ![0, 1, 0] hs⟩ :: L) :=
  done_odd hL inb old w hs hw fun x _ => by
    rw [hold, hL']
    exact (congrFun (View.readAt_writes_of_cover v f
      (⟨Rect.unit (s := S256x16x256) ![0, n, 0] S256x2x256.size inb, w'⟩ :: L')
      (Rect.unit (s := S256x16x256) ![0, n, 0] S256x2x256.size inb).toLoadRect
      fun j => ⟨_, List.mem_cons_self, LoadRect.idx_mem (Rect.unit (s := S256x16x256) ![0, n, 0] S256x2x256.size inb).toLoadRect j⟩) x).symm

/-- A head's payload as the loads give it is the head's result from the whole arrays. -/
theorem head_of_loads {sp sp' sp'' : Space} (u : View sig .tc sp S16x64x256 .bf16) (v : View sig .tc sp' S16x8192x256 .fp8e4m3)
    (x : View sig .tc sp'' S256x8192 .bf16) (U : BufTy.Contents (Elt F) u.ty) (W : BufTy.Contents (Elt F) v.ty) (X : BufTy.Contents (Elt F) x.ty) (h : ℕ)
    (i0 i1 i2 i3 j0 j1 j2 j3 k0 k1 k2 k3) :
    head (u.readAt (Elt F) (Rect.unit (s := S16x64x256) ![h, 0, 0] S1x16x256.size i0).toLoadRect U)
      (u.readAt (Elt F) (Rect.unit (s := S16x64x256) ![h, 16, 0] S1x16x256.size i1).toLoadRect U)
      (u.readAt (Elt F) (Rect.unit (s := S16x64x256) ![h, 32, 0] S1x16x256.size i2).toLoadRect U)
      (u.readAt (Elt F) (Rect.unit (s := S16x64x256) ![h, 48, 0] S1x16x256.size i3).toLoadRect U)
      (v.readAt (Elt F) (Rect.unit (s := S16x8192x256) ![h, 0, 0] S1x2048x256.size j0).toLoadRect W)
      (v.readAt (Elt F) (Rect.unit (s := S16x8192x256) ![h, 2048, 0] S1x2048x256.size j1).toLoadRect W)
      (v.readAt (Elt F) (Rect.unit (s := S16x8192x256) ![h, 4096, 0] S1x2048x256.size j2).toLoadRect W)
      (v.readAt (Elt F) (Rect.unit (s := S16x8192x256) ![h, 6144, 0] S1x2048x256.size j3).toLoadRect W)
      (x.readAt (Elt F) (Rect.unit (s := S256x8192) ![0, 0] S256x2048.size k0).toLoadRect X)
      (x.readAt (Elt F) (Rect.unit (s := S256x8192) ![0, 2048] S256x2048.size k1).toLoadRect X)
      (x.readAt (Elt F) (Rect.unit (s := S256x8192) ![0, 4096] S256x2048.size k2).toLoadRect X)
      (x.readAt (Elt F) (Rect.unit (s := S256x8192) ![0, 6144] S256x2048.size k3).toLoadRect X)
    = headAt (u.read (Elt F) U) (v.read (Elt F) W) (x.read (Elt F) X) h := by
  unfold headAt
  rw [readAt_sCut u U h 0 0 rfl, readAt_sCut u U h 1 16 rfl, readAt_sCut u U h 2 32 rfl, readAt_sCut u U h 3 48 rfl,
    readAt_wCut v W h 0 0 rfl, readAt_wCut v W h 1 2048 rfl, readAt_wCut v W h 2 4096 rfl, readAt_wCut v W h 3 6144 rfl,
    readAt_xCut x X 0 0 rfl, readAt_xCut x X 1 2048 rfl, readAt_xCut x X 2 4096 rfl, readAt_xCut x X 3 6144 rfl]

end Cert.KernelIdeal.Head
-- ==== Proof.Group.lean ====
/- WHAT ONE GROUP OF COLUMNS COMPUTES. The kernel quantises a block of 32 rows by 128 columns at a time (two
   groups of 64 columns): the functions here are that block's results, as functions of the block read. The
   block functions carry no position, so that every one of the 64 column blocks is an instance of them. -/
module

public import proofs.«01_k».proof.Proof.Gen.KernelIdeal.Skeleton

@[expose] public section

set_option maxRecDepth 16384

noncomputable section

namespace Cert.KernelIdeal.Group

open Cert.KernelIdeal Cert.KernelIdeal.Gen
open Idealize.ShloMosaic

variable {F : FTy → Type} [FloatOps F]

/-- The column number inside a block. -/
abbrev lanes : IVec S32x128 32 := iota .tc S32x128 32 [1] iota_S32x128_d1_w32

/-- Which columns of a block belong to its first group. -/
def firstHalf (l : IVec S32x128 32) : IVec S32x128 1 := cmpi .slt l (broadcast S32x128 64#32)

/-- Each row's maximum, as a column. -/
def rowMax (v : FVec F S32x128 .bf16) : FVec F S32x1 .bf16 :=
  shapeCast S32x1 (multiReduction .maximumf [1] S32 v 0xFF80#16 reduces_S32x128_S32 (.inr rfl) rfl) shapeCasts_S32_S32x1

/-- A column repeated over the block's columns. -/
def across (v : FVec F S32x1 .bf16) : FVec F S32x128 .bf16 :=
  broadcastTo S32x128 (shapeCast S32x1 v shapeCasts_S32x1_S32x1) broadcasts_S32x1_S32x128

/-- The largest magnitude of each element's group. -/
def amax (l : IVec S32x128 32) (v : FVec F S32x128 .bf16) : FVec F S32x128 .bf16 :=
  select (firstHalf l)
    (across (rowMax (select (firstHalf l) (absf v) (broadcast S32x128 (Scalar.ofBits .bf16 0x0000#16 : F .bf16)))))
    (across (rowMax (select (firstHalf l) (broadcast S32x128 (Scalar.ofBits .bf16 0x0000#16 : F .bf16)) (absf v))))

/-- One step of the search for the word of a magnitude: a bit is kept where the word with it is not above. -/
def wordStep (a : FVec F S32x128 .bf16) (bit : BitVec 16) (w : IVec S32x128 16) : IVec S32x128 16 :=
  select (cmpf .oge a (bitcastToFloat .bf16 (ori w (broadcast S32x128 bit)))) (ori w (broadcast S32x128 bit)) w

/-- The upper ten bits of the word of each magnitude. -/
def words (a : FVec F S32x128 .bf16) : IVec S32x128 16 :=
  wordStep a 32#16 (wordStep a 64#16 (wordStep a 128#16 (wordStep a 256#16 (wordStep a 512#16 (wordStep a 1024#16
    (wordStep a 2048#16 (wordStep a 4096#16 (wordStep a 8192#16 (wordStep a 16384#16 (broadcast S32x128 0#16))))))))))

/-- The exponent fields, two to a word. -/
def expo (a : FVec F S32x128 .bf16) : IVec S16x128 32 :=
  andi (addi (bitcast S16x128 32 (words a) bitcasts_S32x128_w16_S16x128_w32) (broadcast S16x128 2097184#32))
    (broadcast S16x128 2139127680#32)

/-- A packed word read as floats. -/
def floats (t : IVec S16x128 32) : FVec F S32x128 .bf16 :=
  bitcastToFloat .bf16 (bitcast S32x128 16 t bitcasts_S16x128_w32_S32x128_w16)

/-- Where the magnitude is below the range. -/
def tiny (a : FVec F S32x128 .bf16) : IVec S32x128 1 :=
  cmpf .olt (floats (F := F) (expo a)) (broadcast S32x128 (Scalar.ofBits .bf16 0x0500#16 : F .bf16))

/-- The scale of each element's group, from the group's magnitude. -/
def scaleOf (a : FVec F S32x128 .bf16) : FVec F S32x128 .bf16 :=
  select (tiny a) (broadcast S32x128 (Scalar.ofBits .bf16 0x3F80#16 : F .bf16))
    (floats (subi (expo a) (broadcast S16x128 67109888#32)))

/-- The inverse of the scale. -/
def invOf (a : FVec F S32x128 .bf16) : FVec F S32x128 .bf16 :=
  select (tiny a) (broadcast S32x128 (Scalar.ofBits .bf16 0x3F80#16 : F .bf16))
    (floats (subi (broadcast S16x128 2197848832#32) (expo a)))

/-- The block as the load's reshape leaves it. -/
def blk (v : Vec F S32x128 .bf16) : FVec F S32x128 .bf16 := shapeCast S32x128 v shapeCasts_S32x128_S32x128

/-- The codes of a block. -/
def codes (l : IVec S32x128 32) (v : Vec F S32x128 .bf16) : FVec F S32x128 .fp8e4m3 :=
  truncf .fp8e4m3
    (minimumf (broadcast S32x128 (Scalar.ofBits .bf16 0x43E0#16 : F .bf16))
      (maximumf (broadcast S32x128 (Scalar.ofBits .bf16 0xC3E0#16 : F .bf16)) (mulf (blk v) (invOf (amax l (blk v))))))
    bitsLt_fp8e4m3_bf16

/-- The block dequantised. -/
def deq (l : IVec S32x128 32) (v : Vec F S32x128 .bf16) : FVec F S32x128 .bf16 :=
  shapeCast S32x128 (mulf (extf .bf16 (codes l v) bitsLt_fp8e4m3_bf16) (scaleOf (amax l (blk v)))) shapeCasts_S32x128_S32x128

/-- The scales of a block's two groups put into columns `p` and `q` of the array of scales. -/
def putScales (l : IVec S32x128 32) (p q : BitVec 32) (v : Vec F S32x128 .bf16) (acc : FVec F S32x128 .f32) : FVec F S32x128 .f32 :=
  select (cmpi .eq l (broadcast S32x128 q))
    (broadcastTo S32x128 (shapeCast S32x1 (extractStridedSlice S32x1 ![0, 64] (extf .f32 (scaleOf (amax l (blk v))) bitsLt_bf16_f32)
      slices_S32x128_o0_64_S32x1) shapeCasts_S32x1_S32x1) broadcasts_S32x1_S32x128)
    (select (cmpi .eq l (broadcast S32x128 p))
      (broadcastTo S32x128 (shapeCast S32x1 (extractStridedSlice S32x1 ![0, 0] (extf .f32 (scaleOf (amax l (blk v))) bitsLt_bf16_f32)
        slices_S32x128_o0_0_S32x1) shapeCasts_S32x1_S32x1) broadcasts_S32x1_S32x128) acc)

/-- The scales of the first `n` blocks `v 0, v 1, …` in columns `0 … 2 n - 1`, zero elsewhere. -/
def scales (l : IVec S32x128 32) (v : ℕ → Vec F S32x128 .bf16) : ℕ → FVec F S32x128 .f32
  | 0 => broadcast S32x128 (Scalar.ofBits .f32 0x00000000#32 : F .f32)
  | n + 1 => putScales l (BitVec.ofNat 32 (2 * n)) (BitVec.ofNat 32 (2 * n + 1)) (v n) (scales l v n)

end Cert.KernelIdeal.Group
-- ==== Proof.Trip.lean ====
/- ONE TRIP OF THE KERNEL'S LOOP quantises 32 rows, one block of 128 columns after another. Its stores, read as one
   list, leave in those rows the codes, the dequantised values and the scales of `Proof/Group.lean`, and leave the
   other rows alone. -/
module

public import proofs.«01_k».proof.Proof.Group
public import proofs.«01_k».proof.Proof.Gen.KernelIdeal.Loops
public import Idealize.ShloMosaic.Lib.WritesUnit
public import Idealize.ShloMosaic.Lib.ValueIdxCore

@[expose] public section

set_option maxRecDepth 65536
set_option maxHeartbeats 4000000

noncomputable section

namespace Cert.KernelIdeal.Trip

open Cert.KernelIdeal Cert.KernelIdeal.Gen
open Idealize.ShloMosaic Idealize.ShloMosaic.TcCoe
open Idealize.SL.Sem

variable {F : FTy → Type} [FloatOps F]

/-- Block `j`'s columns of the 32 rows from row `r`. -/
def cut (X : S256x8192.Idx → Elt F .bf16) (r j : ℕ) : Vec F S32x128 .bf16 :=
  fun x => X (ValueIdx.ix2 ⟨(r + (x 0).val) % 256, Nat.mod_lt _ (by decide)⟩ ⟨(128 * j + (x 1).val) % 8192, Nat.mod_lt _ (by decide)⟩)

/-- An element of an array of 256 rows by 8192 columns, told by 32-row band and 128-column block. -/
def inBlock (y : S256x8192.Idx) : S32x128.Idx :=
  ValueIdx.ix2 ⟨(y 0).val % 32, Nat.mod_lt _ (by decide)⟩ ⟨(y 1).val % 128, Nat.mod_lt _ (by decide)⟩

/-- An array built block by block from another. -/
def byBlocks {e : EltTy} (B : Vec F S32x128 .bf16 → Vec F S32x128 e) (X : S256x8192.Idx → Elt F .bf16) : S256x8192.Idx → Elt F e :=
  fun y => B (cut X (32 * ((y 0).val / 32)) ((y 1).val / 128)) (inBlock y)

/-- A load of a block reads its cut. -/
theorem readAt_cut {sp : Space} (v : View sig .tc sp S256x8192 .bf16) (X : BufTy.Contents (Elt F) v.ty) {off : Fin 2 → ℕ} {r j : ℕ}
    (hoff : off = ![r, 128 * j]) (inb : ∀ a, off a + S32x128.size a ≤ S256x8192.size a) :
    v.readAt (Elt F) (Rect.unit (s := S256x8192) off S32x128.size inb).toLoadRect X = cut (v.read (Elt F) X) r j := by
  subst hoff
  have h0 : r + 32 ≤ 256 := inb 0
  have h1 : 128 * j + 128 ≤ 8192 := inb 1
  funext x
  have hx0 : (x 0).val < 32 := (x 0).isLt
  have hx1 : (x 1).val < 128 := (x 1).isLt
  refine congrArg (v.read (Elt F) X) (funext fun a => Fin.ext ?_)
  match a with
  | 0 => show r + 1 * (x 0).val = (r + (x 0).val) % 256; omega
  | 1 => show 128 * j + 1 * (x 1).val = (128 * j + (x 1).val) % 8192; omega

/-- What a list of writes does when it fills the first `n` blocks of the 32 rows from row `r` with `G`. -/
def Fills {e : EltTy} {sp : Space} (v : View sig .tc sp S256x8192 e) (G : S256x8192.Idx → Elt F e) (r n : ℕ)
    (L : List (View.Piece (Elt F) S256x8192 e)) : Prop :=
  ∀ (f : BufTy.Contents (Elt F) v.ty) (y : S256x8192.Idx),
    (r ≤ (y 0).val → (y 0).val < r + 32 → (y 1).val < 128 * n → v.read (Elt F) (v.writes (Elt F) f L) y = G y)
    ∧ ((y 0).val < r ∨ r + 32 ≤ (y 0).val → v.read (Elt F) (v.writes (Elt F) f L) y = v.read (Elt F) f y)

theorem fills_nil {e : EltTy} {sp : Space} (v : View sig .tc sp S256x8192 e) (G : S256x8192.Idx → Elt F e) (r : ℕ) :
    Fills v G r 0 [] := fun _ _ => ⟨fun _ _ h => absurd h (Nat.not_lt_zero _), fun _ => rfl⟩

/-- One more block. -/
theorem fills_cons {e : EltTy} {sp sp' : Space} {v : View sig .tc sp S256x8192 e} {B : Vec F S32x128 .bf16 → Vec F S32x128 e}
    {u : View sig .tc sp' S256x8192 .bf16} {X : BufTy.Contents (Elt F) u.ty} {r n : ℕ}
    {L : List (View.Piece (Elt F) S256x8192 e)} (hL : Fills v (byBlocks B (u.read (Elt F) X)) (32 * r) n L)
    {off : Fin 2 → ℕ} (h : ClosedOff off) (inb : ∀ a, off a + S32x128.size a ≤ S256x8192.size a)
    {w : Vec F S32x128 e} (hv : h.form = ![32 * r, 128 * n])
    (hw : w = B (u.readAt (Elt F) (Rect.unit (s := S256x8192) off S32x128.size inb).toLoadRect X)) :
    Fills v (byBlocks B (u.read (Elt F) X)) (32 * r) (n + 1) (⟨Rect.unit (s := S256x8192) off S32x128.size inb, w⟩ :: L) := by
  have hoff : off = ![32 * r, 128 * n] := h.eq.trans hv
  rw [readAt_cut u X hoff inb] at hw
  have h1 : 128 * n + 128 ≤ 8192 := by have := inb 1; rw [hoff] at this; exact this
  intro f y
  refine ⟨fun h0 h0' hc => ?_, fun hr => ?_⟩
  · by_cases hn : (y 1).val < 128 * n
    · exact (View.read_writes_cons_unit_of_not_mem v f inb w L y hoff 1 (.inl hn)).trans ((hL f y).1 h0 h0' hn)
    · have e0 : 32 * ((y 0).val / 32) = 32 * r := by omega
      have e1 : (y 1).val / 128 = n := by omega
      have hy : byBlocks B (u.read (Elt F) X) y = w (inBlock y) := by
        rw [hw]; show B (cut _ _ _) _ = _; rw [e0, e1]
      rw [hy]
      refine View.read_writes_cons_unit_of_mem v f inb w L y (inBlock y) hoff fun a => ?_
      match a with
      | 0 => show (y 0).val = 32 * r + (y 0).val % 32; omega
      | 1 => show (y 1).val = 128 * n + (y 1).val % 128; omega
  · exact (View.read_writes_cons_unit_of_not_mem v f inb w L y hoff 0 hr).trans ((hL f y).2 hr)

/-- The scales of one more block. -/
theorem scales_step {sp : Space} {u : View sig .tc sp S256x8192 .bf16} {X : BufTy.Contents (Elt F) u.ty} {r n : ℕ}
    {l : IVec S32x128 32} {w acc : FVec F S32x128 .f32} {off : Fin 2 → ℕ} {inb : ∀ a, off a + S32x128.size a ≤ S256x8192.size a}
    (hw : w = Group.putScales l (BitVec.ofNat 32 (2 * n)) (BitVec.ofNat 32 (2 * n + 1))
      (u.readAt (Elt F) (Rect.unit (s := S256x8192) off S32x128.size inb).toLoadRect X) acc)
    (h : ClosedOff off) (hv : h.form = ![32 * r, 128 * n])
    (hacc : acc = Group.scales l (fun j => cut (u.read (Elt F) X) (32 * r) j) n) :
    w = Group.scales l (fun j => cut (u.read (Elt F) X) (32 * r) j) (n + 1) := by
  rw [hw, hacc, readAt_cut u X (h.eq.trans hv) inb]
  rfl

variable (𝒱 : Variants) (c : Dev nD) (bd : Option 𝒱.V) (i : grid0.Coords) (arg1 : Memref sig .tc .vmem S16x64x256 .bf16)
  (harg1 : arg1.IsWhole) (arg2 : Memref sig .tc .vmem S256x8192 .bf16) (harg2 : arg2.IsWhole)
  (arg3 : Memref sig .tc .vmem S16x8192x256 .fp8e4m3) (harg3 : arg3.IsWhole) (arg4 : Memref sig .tc .vmem S256x16x256 .bf16)
  (harg4 : arg4.IsWhole) (arg5 : Memref sig .tc .vmem S256x8192 .fp8e4m3) (harg5 : arg5.IsWhole)
  (arg6 : Memref sig .tc .vmem S256x128 .f32) (harg6 : arg6.IsWhole) (arg7 : Memref sig .tc .vmem S256x8192 .bf16)
  (harg7 : arg7.IsWhole) (v0 : IVec S32x128 32) (X : BufTy.Contents (Elt F) arg2.view.ty) (k : Fin k0_t1_loop.trips)

/-- A trip's codes. -/
theorem trip_codes : Fills arg5.view (byBlocks (Group.codes v0) (arg2.view.read (Elt F) X)) (32 * k.val) 64
    (tripL_k0_t1 (F := F) 𝒱 c bd i arg1 harg1 arg2 harg2 arg3 harg3 arg4 harg4 arg5 harg5 arg6 harg6 arg7 harg7 v0 X k).1 := by
  dsimp only
  unfold trip_k0_t1
  dsimp only
  iterate 64 (refine fills_cons ?_ inferInstance _ rfl rfl)
  exact fills_nil _ _ _

/-- A trip's dequantised values. -/
theorem trip_deq : Fills arg7.view (byBlocks (Group.deq v0) (arg2.view.read (Elt F) X)) (32 * k.val) 64
    (tripL_k0_t1 (F := F) 𝒱 c bd i arg1 harg1 arg2 harg2 arg3 harg3 arg4 harg4 arg5 harg5 arg6 harg6 arg7 harg7 v0 X k).2.2 := by
  dsimp only
  unfold trip_k0_t1
  dsimp only
  iterate 64 (refine fills_cons ?_ inferInstance _ rfl rfl)
  exact fills_nil _ _ _

/-- A trip's scales. -/
theorem trip_scales : ∃ inb, (tripL_k0_t1 (F := F) 𝒱 c bd i arg1 harg1 arg2 harg2 arg3 harg3 arg4 harg4 arg5 harg5 arg6 harg6 arg7 harg7 v0 X k).2.1
    = [⟨Rect.unit (s := S256x128) (k0_off65 k) S32x128.size inb, Group.scales v0 (fun j => cut (arg2.view.read (Elt F) X) (32 * k.val) j) 64⟩] := by
  dsimp only
  unfold trip_k0_t1
  dsimp only
  refine ⟨k0_off65_inb k, ?_⟩
  refine congrArg (fun w => [(⟨Rect.unit (s := S256x128) (k0_off65 k) S32x128.size (k0_off65_inb k), w⟩ : View.Piece (Elt F) S256x128 .f32)]) ?_
  iterate 64 (refine scales_step (u := arg2.view) (X := X) rfl inferInstance rfl ?_)
  rfl

end Cert.KernelIdeal.Trip
-- ==== Proof.Loop.lean ====
/- WHAT THE KERNEL'S LOOP LEAVES. Its eight trips take the 256 rows 32 at a time: the pieces of all trips, written over
   any contents, leave the codes, the scales and the dequantised values of every row. -/
module

public import proofs.«01_k».proof.Proof.Trip

@[expose] public section

set_option maxRecDepth 16384

noncomputable section

namespace Cert.KernelIdeal.Loop

open Cert.KernelIdeal Cert.KernelIdeal.Gen Cert.KernelIdeal.Trip
open Idealize.ShloMosaic Idealize.ShloMosaic.TcCoe
open Idealize.SL.Sem

variable {F : FTy → Type} [FloatOps F]

/-- The scales of every row: an element is its band's. -/
def allScales (l : IVec S32x128 32) (X : S256x8192.Idx → Elt F .bf16) : S256x128.Idx → Elt F .f32 :=
  fun y => Group.scales l (fun j => cut X (32 * ((y 0).val / 32)) j) 64
    (ValueIdx.ix2 ⟨(y 0).val % 32, Nat.mod_lt _ (by decide)⟩ (y 1))

variable (𝒱 : Variants) (c : Dev nD) (bd : Option 𝒱.V) (i : grid0.Coords) (arg1 : Memref sig .tc .vmem S16x64x256 .bf16)
  (harg1 : arg1.IsWhole) (arg2 : Memref sig .tc .vmem S256x8192 .bf16) (harg2 : arg2.IsWhole)
  (arg3 : Memref sig .tc .vmem S16x8192x256 .fp8e4m3) (harg3 : arg3.IsWhole) (arg4 : Memref sig .tc .vmem S256x16x256 .bf16)
  (harg4 : arg4.IsWhole) (arg5 : Memref sig .tc .vmem S256x8192 .fp8e4m3) (harg5 : arg5.IsWhole)
  (arg6 : Memref sig .tc .vmem S256x128 .f32) (harg6 : arg6.IsWhole) (arg7 : Memref sig .tc .vmem S256x8192 .bf16)
  (harg7 : arg7.IsWhole) (v0 : IVec S32x128 32) (X : BufTy.Contents (Elt F) arg2.view.ty)

theorem trips_eq : k0_t1_loop.trips = 8 := by decide

/-- The codes after the first `n` trips. -/
theorem codes_upto (f : BufTy.Contents (Elt F) arg5.view.ty) (n : ℕ) (hn : n ≤ 8) (y : S256x8192.Idx) (hy : (y 0).val < 32 * n) :
    arg5.view.read (Elt F) (arg5.view.writes (Elt F) f
      (pb_k0_t1 (F := F) 𝒱 c bd i arg1 harg1 arg2 harg2 arg3 harg3 arg4 harg4 arg5 harg5 arg6 harg6 arg7 harg7 v0 X n).1) y
    = byBlocks (Group.codes v0) (arg2.view.read (Elt F) X) y := by
  induction n with
  | zero => exact absurd hy (Nat.not_lt_zero _)
  | succ n ih =>
    have hlt : n < k0_t1_loop.trips := by rw [trips_eq]; omega
    have y1 : (y 1).val < 8192 := (y 1).isLt
    have e := pb_k0_t1_succ (F := F) 𝒱 c bd i arg1 harg1 arg2 harg2 arg3 harg3 arg4 harg4 arg5 harg5 arg6 harg6 arg7 harg7 v0 X ⟨n, hlt⟩
    have t := trip_codes (F := F) 𝒱 c bd i arg1 harg1 arg2 harg2 arg3 harg3 arg4 harg4 arg5 harg5 arg6 harg6 arg7 harg7 v0 X ⟨n, hlt⟩
    rw [show n + 1 = (⟨n, hlt⟩ : Fin k0_t1_loop.trips).val + 1 from rfl, e]
    generalize tripL_k0_t1 (F := F) 𝒱 c bd i arg1 harg1 arg2 harg2 arg3 harg3 arg4 harg4 arg5 harg5 arg6 harg6 arg7 harg7 v0 X ⟨n, hlt⟩ = T at t ⊢
    rw [View.writes_append]
    by_cases h : (y 0).val < 32 * n
    · exact ((t _ y).2 (.inl h)).trans (ih (by omega) h)
    · exact (t _ y).1 (by show 32 * n ≤ _; omega) (by show _ < 32 * n + 32; omega) (by omega)

/-- The dequantised values after the first `n` trips. -/
theorem deq_upto (f : BufTy.Contents (Elt F) arg7.view.ty) (n : ℕ) (hn : n ≤ 8) (y : S256x8192.Idx) (hy : (y 0).val < 32 * n) :
    arg7.view.read (Elt F) (arg7.view.writes (Elt F) f
      (pb_k0_t1 (F := F) 𝒱 c bd i arg1 harg1 arg2 harg2 arg3 harg3 arg4 harg4 arg5 harg5 arg6 harg6 arg7 harg7 v0 X n).2.2) y
    = byBlocks (Group.deq v0) (arg2.view.read (Elt F) X) y := by
  induction n with
  | zero => exact absurd hy (Nat.not_lt_zero _)
  | succ n ih =>
    have hlt : n < k0_t1_loop.trips := by rw [trips_eq]; omega
    have y1 : (y 1).val < 8192 := (y 1).isLt
    have e := pb_k0_t1_succ (F := F) 𝒱 c bd i arg1 harg1 arg2 harg2 arg3 harg3 arg4 harg4 arg5 harg5 arg6 harg6 arg7 harg7 v0 X ⟨n, hlt⟩
    have t := trip_deq (F := F) 𝒱 c bd i arg1 harg1 arg2 harg2 arg3 harg3 arg4 harg4 arg5 harg5 arg6 harg6 arg7 harg7 v0 X ⟨n, hlt⟩
    rw [show n + 1 = (⟨n, hlt⟩ : Fin k0_t1_loop.trips).val + 1 from rfl, e]
    generalize tripL_k0_t1 (F := F) 𝒱 c bd i arg1 harg1 arg2 harg2 arg3 harg3 arg4 harg4 arg5 harg5 arg6 harg6 arg7 harg7 v0 X ⟨n, hlt⟩ = T at t ⊢
    rw [View.writes_append]
    by_cases h : (y 0).val < 32 * n
    · exact ((t _ y).2 (.inl h)).trans (ih (by omega) h)
    · exact (t _ y).1 (by show 32 * n ≤ _; omega) (by show _ < 32 * n + 32; omega) (by omega)

/-- The scales after the first `n` trips. -/
theorem scales_upto (f : BufTy.Contents (Elt F) arg6.view.ty) (n : ℕ) (hn : n ≤ 8) (y : S256x128.Idx) (hy : (y 0).val < 32 * n) :
    arg6.view.read (Elt F) (arg6.view.writes (Elt F) f
      (pb_k0_t1 (F := F) 𝒱 c bd i arg1 harg1 arg2 harg2 arg3 harg3 arg4 harg4 arg5 harg5 arg6 harg6 arg7 harg7 v0 X n).2.1) y
    = allScales v0 (arg2.view.read (Elt F) X) y := by
  induction n with
  | zero => exact absurd hy (Nat.not_lt_zero _)
  | succ n ih =>
    have hlt : n < k0_t1_loop.trips := by rw [trips_eq]; omega
    have y1 : (y 1).val < 128 := (y 1).isLt
    have e := pb_k0_t1_succ (F := F) 𝒱 c bd i arg1 harg1 arg2 harg2 arg3 harg3 arg4 harg4 arg5 harg5 arg6 harg6 arg7 harg7 v0 X ⟨n, hlt⟩
    have t := trip_scales (F := F) 𝒱 c bd i arg1 harg1 arg2 harg2 arg3 harg3 arg4 harg4 arg5 harg5 arg6 harg6 arg7 harg7 v0 X ⟨n, hlt⟩
    rw [show n + 1 = (⟨n, hlt⟩ : Fin k0_t1_loop.trips).val + 1 from rfl, e]
    generalize tripL_k0_t1 (F := F) 𝒱 c bd i arg1 harg1 arg2 harg2 arg3 harg3 arg4 harg4 arg5 harg5 arg6 harg6 arg7 harg7 v0 X ⟨n, hlt⟩ = T at t ⊢
    obtain ⟨inb, t⟩ := t
    have hoff : k0_off65 ⟨n, hlt⟩ = ![32 * n, 0] := (inferInstance : ClosedOff (k0_off65 ⟨n, hlt⟩)).eq.trans rfl
    rw [t, List.singleton_append]
    by_cases h : (y 0).val < 32 * n
    · exact (View.read_writes_cons_unit_of_not_mem _ _ inb _ _ y hoff 0 (.inl h)).trans (ih (by omega) h)
    · refine (View.read_writes_cons_unit_of_mem _ _ inb _ _ y (ValueIdx.ix2 ⟨(y 0).val % 32, Nat.mod_lt _ (by decide)⟩ (y 1)) hoff fun a => ?_).trans ?_
      · match a with
        | 0 => show (y 0).val = 32 * n + (y 0).val % 32; omega
        | 1 => show (y 1).val = 0 + (y 1).val; omega
      · unfold allScales
        rw [show (y 0).val / 32 = n by omega]

theorem codes_all (f : BufTy.Contents (Elt F) arg5.view.ty) :
    arg5.view.read (Elt F) (arg5.view.writes (Elt F) f
      (pb_k0_t1 (F := F) 𝒱 c bd i arg1 harg1 arg2 harg2 arg3 harg3 arg4 harg4 arg5 harg5 arg6 harg6 arg7 harg7 v0 X k0_t1_loop.trips).1)
    = byBlocks (Group.codes v0) (arg2.view.read (Elt F) X) := by
  rw [trips_eq]; exact funext fun y => codes_upto 𝒱 c bd i arg1 harg1 arg2 harg2 arg3 harg3 arg4 harg4 arg5 harg5 arg6 harg6 arg7 harg7 v0 X f 8 (le_refl _) y (y 0).isLt

theorem deq_all (f : BufTy.Contents (Elt F) arg7.view.ty) :
    arg7.view.read (Elt F) (arg7.view.writes (Elt F) f
      (pb_k0_t1 (F := F) 𝒱 c bd i arg1 harg1 arg2 harg2 arg3 harg3 arg4 harg4 arg5 harg5 arg6 harg6 arg7 harg7 v0 X k0_t1_loop.trips).2.2)
    = byBlocks (Group.deq v0) (arg2.view.read (Elt F) X) := by
  rw [trips_eq]; exact funext fun y => deq_upto 𝒱 c bd i arg1 harg1 arg2 harg2 arg3 harg3 arg4 harg4 arg5 harg5 arg6 harg6 arg7 harg7 v0 X f 8 (le_refl _) y (y 0).isLt

theorem scales_all (f : BufTy.Contents (Elt F) arg6.view.ty) :
    arg6.view.read (Elt F) (arg6.view.writes (Elt F) f
      (pb_k0_t1 (F := F) 𝒱 c bd i arg1 harg1 arg2 harg2 arg3 harg3 arg4 harg4 arg5 harg5 arg6 harg6 arg7 harg7 v0 X k0_t1_loop.trips).2.1)
    = allScales v0 (arg2.view.read (Elt F) X) := by
  rw [trips_eq]; exact funext fun y => scales_upto 𝒱 c bd i arg1 harg1 arg2 harg2 arg3 harg3 arg4 harg4 arg5 harg5 arg6 harg6 arg7 harg7 v0 X f 8 (le_refl _) y (y 0).isLt

end Cert.KernelIdeal.Loop
-- ==== Proof.Body.lean ====
/- THE KERNEL'S BODY AND ITS RUN. One point of the grid: from the three inputs' blocks, whatever the results' buffers
   and the scratch held, the body leaves the block of results, of codes and of scales of `Proof/Head.lean` and
   `Proof/Loop.lean`; then the run of the whole program over the 48 points. -/
module

public import proofs.«01_k».proof.Proof.Gen.KernelIdeal.Frame
public import proofs.«01_k».proof.Proof.Head
public import proofs.«01_k».proof.Proof.Loop
public import Idealize.ShloMosaic.Lib.Pipeline.Frame
public import Idealize.ShloMosaic.Lib.Claim

@[expose] public section

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000

/-- The body's seven arrays at given contents. -/
abbrev Held (c : Dev nD) (arg1 : Memref sig .tc .vmem S16x64x256 .bf16) (arg2 : Memref sig .tc .vmem S256x8192 .bf16) (arg3 : Memref sig .tc .vmem S16x8192x256 .fp8e4m3) (arg4 : Memref sig .tc .vmem S256x16x256 .bf16) (arg5 : Memref sig .tc .vmem S256x8192 .fp8e4m3) (arg6 : Memref sig .tc .vmem S256x128 .f32) (arg7 : Memref sig .tc .vmem S256x8192 .bf16)
   (x1 : BufTy.Contents (Elt F) arg1.view.ty) (x2 : BufTy.Contents (Elt F) arg2.view.ty) (x3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) : sProp 𝕄 :=
  iprop((arg1.view.loc (c : Thread nD τ) ↦[arg1.view.set]{fullShare} x1) ∗ (arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7))

open Head in
/-- RUN of the body: what the three arrays of results hold after it. -/
theorem kernelRun (𝒱 : Variants) (c : Dev nD) (bd : Option 𝒱.V) (i : grid0.Coords) (arg1 : Memref sig .tc .vmem S16x64x256 .bf16) (harg1 : arg1.IsWhole) (arg2 : Memref sig .tc .vmem S256x8192 .bf16) (harg2 : arg2.IsWhole) (arg3 : Memref sig .tc .vmem S16x8192x256 .fp8e4m3) (harg3 : arg3.IsWhole) (arg4 : Memref sig .tc .vmem S256x16x256 .bf16) (harg4 : arg4.IsWhole) (arg5 : Memref sig .tc .vmem S256x8192 .fp8e4m3) (harg5 : arg5.IsWhole) (arg6 : Memref sig .tc .vmem S256x128 .f32) (harg6 : arg6.IsWhole) (arg7 : Memref sig .tc .vmem S256x8192 .bf16) (harg7 : arg7.IsWhole)
   (x1 : BufTy.Contents (Elt F) arg1.view.ty) (x2 : BufTy.Contents (Elt F) arg2.view.ty) (x3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (K : PUnit → sProp 𝕄):
   iprop(Held c arg1 arg2 arg3 arg4 arg5 arg6 arg7 x1 x2 x3 f4 f5 f6 f7
     ∗ (∀ L4, Held c arg1 arg2 arg3 arg4 arg5 arg6 arg7 x1 x2 x3 (arg4.view.writes (Elt F) f4 L4)
          (arg5.view.writes (Elt F) f5 (pb_k0_t1 (F := F) 𝒱 c bd i arg1 harg1 arg2 harg2 arg3 harg3 arg4 harg4 arg5 harg5 arg6 harg6 arg7 harg7 Group.lanes x2 (Scf.trips k0_t1_loop.lb k0_t1_loop.ub k0_t1_loop.st)).1)
          (arg6.view.writes (Elt F) f6 (pb_k0_t1 (F := F) 𝒱 c bd i arg1 harg1 arg2 harg2 arg3 harg3 arg4 harg4 arg5 harg5 arg6 harg6 arg7 harg7 Group.lanes x2 (Scf.trips k0_t1_loop.lb k0_t1_loop.ub k0_t1_loop.st)).2.1)
          (arg7.view.writes (Elt F) f7 (pb_k0_t1 (F := F) 𝒱 c bd i arg1 harg1 arg2 harg2 arg3 harg3 arg4 harg4 arg5 harg5 arg6 harg6 arg7 harg7 Group.lanes x2 (Scf.trips k0_t1_loop.lb k0_t1_loop.ub k0_t1_loop.st)).2.2)
        -∗ ⌜Done arg4.view f4 (headAt (arg1.view.read (Elt F) x1) (arg3.view.read (Elt F) x3)
           (arg7.view.read (Elt F) (arg7.view.writes (Elt F) f7 (pb_k0_t1 (F := F) 𝒱 c bd i arg1 harg1 arg2 harg2 arg3 harg3 arg4 harg4 arg5 harg5 arg6 harg6 arg7 harg7 Group.lanes x2 (Scf.trips k0_t1_loop.lb k0_t1_loop.ub k0_t1_loop.st)).2.2))) 16 L4⌝
         -∗ K ⟨⟩))
   ⊢ wp frame (wpE (defs₀ (F := F)) 𝒱 (c : Thread nD τ) bd) Set.univ (cc0_quant_up_proj (F := F) i arg1 harg1 arg2 harg2 arg3 harg3 arg4 harg4 arg5 harg5 arg6 harg6 arg7 harg7) K := by
  simp only [cc0_quant_up_proj_eq_skeleton]; unfold cc0_quant_up_proj_skel
  iintro ⟨⟨H1, H2, H3, H4, H5, H6, H7⟩, Hk⟩
  sl_exec
  sl_step
  iapply Hk $$ %_ [H1 H2 H3 H4 H5 H6 H7] []
  · isplitl [H1]; · iexact H1
    isplitl [H2]; · iexact H2
    isplitl [H3]; · iexact H3
    isplitl [H4]; · iexact H4
    isplitl [H5]; · iexact H5
    isplitl [H6]; · iexact H6
    iexact H7
  · ipureintro
    iterate 8
      refine done_odd_cov ?_ _ _ _ _ ?_ _ rfl rfl
      rotate_left
      · exact head_of_loads arg1.view arg3.view arg7.view x1 x3
          (arg7.view.writes (Elt F) f7 (pb_k0_t1 (F := F) 𝒱 c bd i arg1 harg1 arg2 harg2 arg3 harg3 arg4 harg4 arg5 harg5 arg6 harg6 arg7 harg7 Group.lanes x2 (Scf.trips k0_t1_loop.lb k0_t1_loop.ub k0_t1_loop.st)).2.2)
          _ _ _ _ _ _ _ _ _ _ _ _ _
      refine done_even ?_ _ _ _ _ ?_
      rotate_left
      · exact head_of_loads arg1.view arg3.view arg7.view x1 x3
          (arg7.view.writes (Elt F) f7 (pb_k0_t1 (F := F) 𝒱 c bd i arg1 harg1 arg2 harg2 arg3 harg3 arg4 harg4 arg5 harg5 arg6 harg6 arg7 harg7 Group.lanes x2 (Scf.trips k0_t1_loop.lb k0_t1_loop.ub k0_t1_loop.st)).2.2)
          _ _ _ _ _ _ _ _ _ _ _ _ _
    exact done_nil _ _ _

/-- The blocks of results, of codes and of scales, from the inputs' blocks. -/
def outBlk (x1 : S16x64x256.Idx → Elt F .bf16) (x2 : S256x8192.Idx → Elt F .bf16) (x3 : S16x8192x256.Idx → Elt F .fp8e4m3) :
    S256x16x256.Idx → Elt F .bf16 := Head.out x1 x3 (Trip.byBlocks (Group.deq Group.lanes) x2)
def codesBlk (x2 : S256x8192.Idx → Elt F .bf16) : S256x8192.Idx → Elt F .fp8e4m3 := Trip.byBlocks (Group.codes Group.lanes) x2
def scalesBlk (x2 : S256x8192.Idx → Elt F .bf16) : S256x128.Idx → Elt F .f32 := Loop.allScales Group.lanes x2

/-- The body's triple: each result's buffer ends at its block. -/
theorem sound_kernel (c : Dev nD) (i : grid0.Coords) (arg1 : Memref sig .tc .vmem S16x64x256 .bf16) (harg1 : arg1.IsWhole) (arg2 : Memref sig .tc .vmem S256x8192 .bf16) (harg2 : arg2.IsWhole) (arg3 : Memref sig .tc .vmem S16x8192x256 .fp8e4m3) (harg3 : arg3.IsWhole) (arg4 : Memref sig .tc .vmem S256x16x256 .bf16) (harg4 : arg4.IsWhole) (arg5 : Memref sig .tc .vmem S256x8192 .fp8e4m3) (harg5 : arg5.IsWhole) (arg6 : Memref sig .tc .vmem S256x128 .f32) (harg6 : arg6.IsWhole) (arg7 : Memref sig .tc .vmem S256x8192 .bf16) (harg7 : arg7.IsWhole)
    (x1 : Vec F S16x64x256 .bf16) (x2 : Vec F S256x8192 .bf16) (x3 : Vec F S16x8192x256 .fp8e4m3) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2 ∗ owns (c : Thread nD τ) arg3 fullShare x3
            ∗ owns (c : Thread nD τ) arg4 fullShare (outBlk x1 x2 x3) ∗ owns (c : Thread nD τ) arg5 fullShare (codesBlk x2)
            ∗ owns (c : Thread nD τ) arg6 fullShare (scalesBlk x2) ∗ (∃ d, owns (c : Thread nD τ) arg7 fullShare d)) -∗ K ⟨⟩))
      ⊢ wp frame (wpE (defs₀ (F := F)) Variants.none (c : Thread nD τ) none) Set.univ
          (cc0_quant_up_proj (F := F) i arg1 harg1 arg2 harg2 arg3 harg3 arg4 harg4 arg5 harg5 arg6 harg6 arg7 harg7) K := by
  unfold owns
  iintro ⟨⟨%f1, %h1, H1⟩, ⟨%f2, %h2, H2⟩, ⟨%f3, %h3, H3⟩, ⟨%d4, %f4, -, H4⟩, ⟨%d5, %f5, -, H5⟩, ⟨%d6, %f6, -, H6⟩, ⟨%d7, %f7, -, H7⟩, Hk⟩
  subst h1 h2 h3
  iapply (kernelRun Variants.none c none i arg1 harg1 arg2 harg2 arg3 harg3 arg4 harg4 arg5 harg5 arg6 harg6 arg7 harg7 f1 f2 f3 f4 f5 f6 f7 K)
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  iintro %L4 ⟨H1, H2, H3, H4, H5, H6, H7⟩ %hd
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [show Scf.trips k0_t1_loop.lb k0_t1_loop.ub k0_t1_loop.st = k0_t1_loop.trips from rfl, Loop.deq_all] at hd
    exact funext fun y => hd y (y 1).isLt
  isplitl [H5]
  · iexists _; isplitr
    swap; · iexact H5
    ipureintro
    exact Loop.codes_all Variants.none c none i arg1 harg1 arg2 harg2 arg3 harg3 arg4 harg4 arg5 harg5 arg6 harg6 arg7 harg7 Group.lanes f2 f5
  isplitl [H6]
  · iexists _; isplitr
    swap; · iexact H6
    ipureintro
    exact Loop.scales_all Variants.none c none i arg1 harg1 arg2 harg2 arg3 harg3 arg4 harg4 arg5 harg5 arg6 harg6 arg7 harg7 Group.lanes f2 f6
  iexists _; iexists _; isplitr
  swap; · iexact H7
  ipureintro; rfl

variable (m : (ℓ : Loc nD τ sig) → Buf (Elt F) ℓ) (ρ : Dev nD → PrngReg)

/-- What the pipeline holds: the arrays as the region finds them; after a point each input's buffer at its block and
    each result's at its block of the inputs'. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
    | ⟨4, _⟩ => codesBlk (iblk m c 1 t)
    | ⟨5, _⟩ => scalesBlk (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outBlk (iblk m c 0 t) (iblk m c 1 t) (iblk m c 2 t) := by dsimp only [dats]
theorem after0_4 (c : Dev nD) (t : Fin cfg0.N) : (dats m 0 c).after 4 t = codesBlk (iblk m c 1 t) := by dsimp only [dats]
theorem after0_5 (c : Dev nD) (t : Fin cfg0.N) : (dats m 0 c).after 5 t = scalesBlk (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The invariant between points: the scratch at some contents and the generator register at some state. -/
theorem Phi_eq (c : Dev nD) : (Pipeline.ΦA spec0 c : sProp 𝕄)
    = iprop((∃ d, owns (c : Thread nD τ) (Memref.whole cc0_scratch0) fullShare d) ∗ ∃ r, prngReg c r) := by
  unfold Pipeline.ΦA; rw [scopedRest0_eq]; simp only [owns_whole]; try rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, Phi_eq,
    after0_0, after0_1, after0_2, after0_3, after0_4, after0_5]
  iintro ⟨⟨HS, HR⟩, Ho, ⟨%d0, H0⟩, ⟨%d1, H1⟩, ⟨%d2, H2⟩, ⟨%d3, H3⟩, ⟨%d4, H4⟩, ⟨%d5, H5⟩⟩
  iapply (sound_kernel c _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS]; · iexact HS
  iintro ⟨H0, H1, H2, H3, H4, H5, HS⟩
  isplitl [HS HR]
  · isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run, and every semaphore at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run, every array of the pipeline told by the proof data. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Body
-- ==== Proof.KernelFrame.lean ====
/- THE KERNEL'S FRAME at its own floats: every run ends, the argument arrays as they were and every semaphore at zero.
   Nothing is said here of what the arrays of results hold. -/
module

public import proofs.«01_k».proof.Proof.Gen.Kernel.Frame
public import proofs.«01_k».proof.Proof.Gen.Kernel.Loops
public import Idealize.ShloMosaic.Lib.Pipeline.Frame
public import Idealize.ShloMosaic.Lib.Claim

@[expose] public section

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000

/-- The body's seven arrays at given contents. -/
abbrev Held (c : Dev nD) (arg1 : Memref sig .tc .vmem S16x64x256 .bf16) (arg2 : Memref sig .tc .vmem S256x8192 .bf16) (arg3 : Memref sig .tc .vmem S16x8192x256 .fp8e4m3) (arg4 : Memref sig .tc .vmem S256x16x256 .bf16) (arg5 : Memref sig .tc .vmem S256x8192 .fp8e4m3) (arg6 : Memref sig .tc .vmem S256x128 .f32) (arg7 : Memref sig .tc .vmem S256x8192 .bf16)
   (x1 : BufTy.Contents (Elt F) arg1.view.ty) (x2 : BufTy.Contents (Elt F) arg2.view.ty) (x3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) : sProp 𝕄 :=
  iprop((arg1.view.loc (c : Thread nD τ) ↦[arg1.view.set]{fullShare} x1) ∗ (arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7))

/-- The body runs, from any contents of its arrays. -/
theorem kernelRun (𝒱 : Variants) (c : Dev nD) (bd : Option 𝒱.V) (i : grid0.Coords) (arg1 : Memref sig .tc .vmem S16x64x256 .bf16) (harg1 : arg1.IsWhole) (arg2 : Memref sig .tc .vmem S256x8192 .bf16) (harg2 : arg2.IsWhole) (arg3 : Memref sig .tc .vmem S16x8192x256 .fp8e4m3) (harg3 : arg3.IsWhole) (arg4 : Memref sig .tc .vmem S256x16x256 .bf16) (harg4 : arg4.IsWhole) (arg5 : Memref sig .tc .vmem S256x8192 .fp8e4m3) (harg5 : arg5.IsWhole) (arg6 : Memref sig .tc .vmem S256x128 .f32) (harg6 : arg6.IsWhole) (arg7 : Memref sig .tc .vmem S256x8192 .bf16) (harg7 : arg7.IsWhole)
   (x1 : BufTy.Contents (Elt F) arg1.view.ty) (x2 : BufTy.Contents (Elt F) arg2.view.ty) (x3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (K : PUnit → sProp 𝕄):
   iprop(Held c arg1 arg2 arg3 arg4 arg5 arg6 arg7 x1 x2 x3 f4 f5 f6 f7
     ∗ (∀ g4 g5 g6 g7, Held c arg1 arg2 arg3 arg4 arg5 arg6 arg7 x1 x2 x3 g4 g5 g6 g7 -∗ K ⟨⟩))
   ⊢ wp frame (wpE (defs₀ (F := F)) 𝒱 (c : Thread nD τ) bd) Set.univ (cc0_quant_up_proj (F := F) i arg1 harg1 arg2 harg2 arg3 harg3 arg4 harg4 arg5 harg5 arg6 harg6 arg7 harg7) K := by
  simp only [cc0_quant_up_proj_eq_skeleton]; unfold cc0_quant_up_proj_skel
  iintro ⟨⟨H1, H2, H3, H4, H5, H6, H7⟩, Hk⟩
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  iexact H7

/-- The body's triple: each result's buffer ends at some contents. -/
theorem sound_kernel (c : Dev nD) (i : grid0.Coords) (arg1 : Memref sig .tc .vmem S16x64x256 .bf16) (harg1 : arg1.IsWhole) (arg2 : Memref sig .tc .vmem S256x8192 .bf16) (harg2 : arg2.IsWhole) (arg3 : Memref sig .tc .vmem S16x8192x256 .fp8e4m3) (harg3 : arg3.IsWhole) (arg4 : Memref sig .tc .vmem S256x16x256 .bf16) (harg4 : arg4.IsWhole) (arg5 : Memref sig .tc .vmem S256x8192 .fp8e4m3) (harg5 : arg5.IsWhole) (arg6 : Memref sig .tc .vmem S256x128 .f32) (harg6 : arg6.IsWhole) (arg7 : Memref sig .tc .vmem S256x8192 .bf16) (harg7 : arg7.IsWhole)
    (x1 : Vec F S16x64x256 .bf16) (x2 : Vec F S256x8192 .bf16) (x3 : Vec F S16x8192x256 .fp8e4m3) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2 ∗ owns (c : Thread nD τ) arg3 fullShare x3
            ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)) -∗ K ⟨⟩))
      ⊢ wp frame (wpE (defs₀ (F := F)) Variants.none (c : Thread nD τ) none) Set.univ
          (cc0_quant_up_proj (F := F) i arg1 harg1 arg2 harg2 arg3 harg3 arg4 harg4 arg5 harg5 arg6 harg6 arg7 harg7) K := by
  unfold owns
  iintro ⟨⟨%f1, %h1, H1⟩, ⟨%f2, %h2, H2⟩, ⟨%f3, %h3, H3⟩, ⟨%d4, %f4, -, H4⟩, ⟨%d5, %f5, -, H5⟩, ⟨%d6, %f6, -, H6⟩, ⟨%d7, %f7, -, H7⟩, Hk⟩
  subst h1 h2 h3
  iapply (kernelRun Variants.none c none i arg1 harg1 arg2 harg2 arg3 harg3 arg4 harg4 arg5 harg5 arg6 harg6 arg7 harg7 f1 f2 f3 f4 f5 f6 f7 K)
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  iintro %g4 %g5 %g6 %g7 ⟨H1, H2, H3, H4, H5, H6, H7⟩
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  iexists _; iexists _; isplitr
  swap; · iexact H7
  ipureintro; rfl

variable (m : (ℓ : Loc nD τ sig) → Buf (Elt F) ℓ) (ρ : Dev nD → PrngReg)

/-- The windows of the three results, of whose contents nothing is said. -/
def forgets0 : Fin 6 → Bool := fun w => decide (3 ≤ w.val)

/-- What the pipeline holds: the arrays as the region finds them, and after a point each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The invariant between points: the scratch at some contents and the generator register at some state. -/
theorem Phi_eq (c : Dev nD) : (Pipeline.ΦA spec0 c : sProp 𝕄)
    = iprop((∃ d, owns (c : Thread nD τ) (Memref.whole cc0_scratch0) fullShare d) ∗ ∃ r, prngReg c r) := by
  unfold Pipeline.ΦA; rw [scopedRest0_eq]; simp only [owns_whole]; try rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d)
    ∗ (∃ d, owns (c : Thread nD τ) (st0_4 t) fullShare d)
    ∗ (∃ d, owns (c : Thread nD τ) (st0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d)
    ∗ (∃ d, owns (c : Thread nD τ) (st0_4 t) fullShare d)
    ∗ (∃ d, owns (c : Thread nD τ) (st0_5 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, Phi_eq,
    after0_0, after0_1, after0_2]
  iintro ⟨⟨HS, HR⟩, Ho, ⟨%d0, H0⟩, ⟨%d1, H1⟩, ⟨%d2, H2⟩, ⟨%d3, H3⟩, ⟨%d4, H4⟩, ⟨%d5, H5⟩⟩
  iapply (sound_kernel c _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS]; · iexact HS
  iintro ⟨H0, H1, H2, H3, H4, H5, HS⟩
  isplitl [HS HR]
  · isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run: the inputs' arrays unchanged, and every semaphore at zero at its end. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ ⟨h, hz⟩ => ⟨fun c =>
    ⟨((h c).2 main_arg0 (Pipeline.mem_restRefs_of main_arg0 (by decide) (by decide))).trans (V_main_arg0 m c),
      (Pipeline.RDat.FramePost.arr_in h c 2 rfl).trans ((A_eq m c 2).trans (V_main_arg1 m c)),
      ((h c).2 main_arg2 (Pipeline.mem_restRefs_of main_arg2 (by decide) (by decide))).trans (V_main_arg2 m c)⟩, hz⟩) (run_main m ρ)

end Cert.Kernel.Body
-- ==== Proof.Scale.lean ====
/- THE SCALE OF A GROUP, as mathematics on one magnitude. The reference takes the smallest power of two `2 ^ k`,
   `-126 ≤ k ≤ 120`, with `448 * 2 ^ k` above the group's largest magnitude, and 1 for a group of zeros. The kernel
   finds the upper ten bits of the magnitude's word by bisection, and makes the scale and its inverse from the
   exponent field, two rows to a 32-bit word. Here: the two agree. -/
module

public import Idealize.ShloMosaic.PureOps.Ideal
public import Idealize.ShloMosaic.Lib.IdealHost

@[expose] public section

noncomputable section

namespace Cert.Scale

open Idealize.ShloMosaic

/-! ## The words of a magnitude -/

/-- What the word with exponent field `e` and leading fraction bits `f` denotes. -/
theorem ofBits_word (e f : ℕ) (he : e < 255) (hf : f < 4) :
    Ideal.ofBits .bf16 (BitVec.ofNat 16 (32 * (4 * e + f)))
      = (((if e = 0 then (f : ℝ) * 2 ^ (-128 : ℤ) else (4 + f) * 2 ^ ((e : ℤ) - 129)) : ℝ) : EReal) := by
  have h1 : ((BitVec.ofNat 16 (32 * (4 * e + f))).extractLsb' 7 8).toNat = e := by
    rw [BitVec.extractLsb'_toNat, BitVec.toNat_ofNat, Nat.shiftRight_eq_div_pow]; omega
  have h2 : ((BitVec.ofNat 16 (32 * (4 * e + f))).extractLsb' 0 7).toNat = 32 * f := by
    rw [BitVec.extractLsb'_toNat, BitVec.toNat_ofNat, Nat.shiftRight_eq_div_pow]; omega
  have h3 : ((BitVec.ofNat 16 (32 * (4 * e + f))).extractLsb' (8 + 7) 1 == 1#1) = false := by
    have : ((BitVec.ofNat 16 (32 * (4 * e + f))).extractLsb' (8 + 7) 1).toNat = 0 := by
      rw [BitVec.extractLsb'_toNat, BitVec.toNat_ofNat, Nat.shiftRight_eq_div_pow]; omega
    rw [show (BitVec.ofNat 16 (32 * (4 * e + f))).extractLsb' (8 + 7) 1 = 0#1 from BitVec.eq_of_toNat_eq this]; rfl
  unfold Ideal.ofBits Ideal.ieee
  dsimp only
  rw [h1, h2, h3, if_neg (by omega)]
  by_cases h0 : e = 0
  · rw [if_pos h0, if_pos h0]
    congr 1
    rw [show (1 - (2 ^ (8 - 1) - 1) - ((7 : ℕ) : ℤ) : ℤ) = -128 + (-5) by norm_num, zpow_add₀ (by norm_num)]
    push_cast; norm_num; ring
  · rw [if_neg h0, if_neg h0]
    congr 1
    rw [show ((e : ℤ) - (2 ^ (8 - 1) - 1) - ((7 : ℕ) : ℤ) : ℤ) = ((e : ℤ) - 129) + (-5) by norm_num; ring, zpow_add₀ (by norm_num)]
    push_cast; norm_num; ring

/-- The magnitude whose word's upper bits are `n`; infinite from the first infinite word on. -/
def upper (n : ℕ) : EReal := if n < 1020 then Ideal.ofBits .bf16 (BitVec.ofNat 16 (32 * n)) else ⊤

theorem ofBits_upper {n : ℕ} (h : n ≤ 1020) : Ideal.ofBits .bf16 (BitVec.ofNat 16 (32 * n)) = upper n := by
  unfold upper
  by_cases h' : n < 1020
  · rw [if_pos h']
  · rw [if_neg h', show n = 1020 by omega]
    simp [Ideal.ofBits, Ideal.ieee]

theorem upper_eq {n : ℕ} (h : n < 1020) :
    upper n = (((if n / 4 = 0 then ((n % 4 : ℕ) : ℝ) * 2 ^ (-128 : ℤ) else (4 + ((n % 4 : ℕ) : ℝ)) * 2 ^ (((n / 4 : ℕ) : ℤ) - 129)) : ℝ) : EReal) := by
  rw [upper, if_pos h, ← ofBits_word (n / 4) (n % 4) (by omega) (by omega), Nat.div_add_mod]

/-- A bit is kept where the word with it does not lie above the magnitude. -/
def keep (a : EReal) (bit w : BitVec 16) : BitVec 16 := if Ideal.ofBits .bf16 (w ||| bit) ≤ a then w ||| bit else w

/-- The upper ten bits of the magnitude's word, by bisection. -/
def word (a : EReal) : BitVec 16 :=
  keep a 32#16 (keep a 64#16 (keep a 128#16 (keep a 256#16 (keep a 512#16 (keep a 1024#16
    (keep a 2048#16 (keep a 4096#16 (keep a 8192#16 (keep a 16384#16 0#16)))))))))

/-- The magnitude lies in the interval of `2 ^ k` words that starts at the word `w`. -/
def Within (a : EReal) (k : ℕ) (w : BitVec 16) : Prop :=
  ∃ n, n % 2 ^ k = 0 ∧ n + 2 ^ k ≤ 1024 ∧ w = BitVec.ofNat 16 (32 * n) ∧ upper n ≤ a ∧ a < upper (n + 2 ^ k)

theorem within_keep {a : EReal} (ha : a < ⊤) {k : ℕ} (hk : k < 10) {w : BitVec 16} (h : Within a (k + 1) w) :
    Within a k (keep a (BitVec.ofNat 16 (32 * 2 ^ k)) w) := by
  obtain ⟨n, h1, h2, rfl, h3, h4⟩ := h
  have hn : n < 1020 := by
    by_contra hc
    rw [upper, if_neg hc] at h3
    exact absurd (lt_of_le_of_lt h3 ha) (lt_irrefl _)
  have hor : BitVec.ofNat 16 (32 * n) ||| BitVec.ofNat 16 (32 * 2 ^ k) = BitVec.ofNat 16 (32 * (n + 2 ^ k)) := by
    rw [← BitVec.ofNat_or]
    congr 1
    obtain ⟨j, rfl⟩ := Nat.dvd_of_mod_eq_zero h1
    have h5 : 32 * 2 ^ k < 2 ^ (k + 6) := by rw [pow_add]; have := Nat.two_pow_pos k; omega
    have := Nat.two_pow_add_eq_or_of_lt h5 j
    rw [show 32 * (2 ^ (k + 1) * j) = 2 ^ (k + 6) * j by rw [pow_add, pow_add]; ring, ← this]
    ring
  have hle : n + 2 ^ k ≤ 1020 := by
    interval_cases k <;> norm_num at h1 h2 ⊢ <;> omega
  unfold keep
  rw [hor, ofBits_upper hle]
  by_cases hc : upper (n + 2 ^ k) ≤ a
  · rw [if_pos hc]
    refine ⟨n + 2 ^ k, ?_, by rw [pow_succ] at h2; omega, rfl, hc, ?_⟩
    · obtain ⟨j, rfl⟩ := Nat.dvd_of_mod_eq_zero h1
      rw [pow_succ, mul_assoc, Nat.add_mod_right, Nat.mul_mod_right]
    · rwa [add_assoc, ← two_mul, ← pow_succ']
  · rw [if_neg hc]
    refine ⟨n, ?_, by rw [pow_succ] at h2; omega, rfl, h3, not_le.mp hc⟩
    obtain ⟨j, rfl⟩ := Nat.dvd_of_mod_eq_zero h1
    rw [pow_succ, mul_assoc, Nat.mul_mod_right]

/-- The bisection finds the word: the magnitude lies from it to the next. -/
theorem word_spec {a : EReal} (h0 : 0 ≤ a) (ha : a < ⊤) :
    ∃ q, q < 1020 ∧ word a = BitVec.ofNat 16 (32 * q) ∧ upper q ≤ a ∧ a < upper (q + 1) := by
  have hs : Within a 10 0#16 := ⟨0, by norm_num, by norm_num, rfl, by
    rw [← ofBits_upper (by norm_num)]; simpa using h0, by rw [upper, if_neg (by norm_num)]; exact ha⟩
  have hw : Within a 0 (word a) :=
    within_keep ha (k := 0) (by norm_num) (within_keep ha (k := 1) (by norm_num) (within_keep ha (k := 2) (by norm_num)
      (within_keep ha (k := 3) (by norm_num) (within_keep ha (k := 4) (by norm_num) (within_keep ha (k := 5) (by norm_num)
      (within_keep ha (k := 6) (by norm_num) (within_keep ha (k := 7) (by norm_num) (within_keep ha (k := 8) (by norm_num)
      (within_keep ha (k := 9) (by norm_num) hs)))))))))
  obtain ⟨q, -, -, h1, h2, h3⟩ := hw
  refine ⟨q, ?_, h1, h2, h3⟩
  by_contra hc
  rw [upper, if_neg hc] at h2
  exact absurd (lt_of_le_of_lt h2 ha) (lt_irrefl _)

/-! ## The reference's scale -/

/-- The `j`-th power of two, from `2 ^ (-126)` on. -/
def two (j : ℕ) : EReal := (((2 : ℝ) ^ ((j : ℤ) - 126) : ℝ) : EReal)

/-- The reference's scale of a group whose largest magnitude is `a`. -/
def scl (a : EReal) : EReal :=
  if a = 0 then 1 else (Finset.univ : Finset (Fin 247)).fold min ⊤ fun j : Fin 247 => if a < two j.val * 448 then two j.val else ⊤

/-- A magnitude in the range where the scale is exact. -/
def In (a : EReal) : Prop := Ideal.ofBits .f32 0x04E00000#32 ≤ a ∧ a ≤ Ideal.ofBits .f32 0x7F7F0000#32

theorem tiny_eq : Ideal.ofBits .f32 0x04E00000#32 = ((7 * 2 ^ (-120 : ℤ) : ℝ) : EReal) := by
  simp [Ideal.ofBits, Ideal.ieee, -EReal.coe_mul, -EReal.coe_pow]; norm_num

theorem largest_eq : Ideal.ofBits .f32 0x7F7F0000#32 = ((255 * 2 ^ (120 : ℤ) : ℝ) : EReal) := by
  simp [Ideal.ofBits, Ideal.ieee, -EReal.coe_mul, -EReal.coe_pow]; norm_num

theorem two_mul_448 (j : ℕ) : two j * 448 = ((7 * 2 ^ ((j : ℤ) - 120) : ℝ) : EReal) := by
  rw [two, show (448 : EReal) = ((448 : ℝ) : EReal) from rfl, ← EReal.coe_mul]
  congr 1
  rw [show ((j : ℤ) - 120) = ((j : ℤ) - 126) + 6 by ring, zpow_add₀ (by norm_num)]
  norm_num; ring

/-- Between two neighbouring steps the smallest power that fits is the step's. -/
theorem scl_eq {r : ℝ} {E : ℕ} (h1 : 10 ≤ E) (h2 : E ≤ 255) (hl : 7 * 2 ^ ((E : ℤ) - 130) ≤ r) (hu : r < 7 * 2 ^ ((E : ℤ) - 129)) :
    scl (r : EReal) = (((2 : ℝ) ^ ((E : ℤ) - 135) : ℝ) : EReal) := by
  have hr : r ≠ 0 := (lt_of_lt_of_le (by positivity) hl).ne'
  have hf : two (E - 9) = (((2 : ℝ) ^ ((E : ℤ) - 135) : ℝ) : EReal) := by
    rw [two, show ((E - 9 : ℕ) : ℤ) - 126 = (E : ℤ) - 135 by omega]
  rw [scl, if_neg (by exact_mod_cast hr)]
  apply le_antisymm
  · rw [Finset.fold_min_le]
    refine Or.inr ⟨⟨E - 9, by omega⟩, Finset.mem_univ _, ?_⟩
    rw [if_pos, hf]
    rw [two_mul_448, EReal.coe_lt_coe_iff]
    dsimp only
    rw [show (((E - 9 : ℕ) : ℤ) - 120) = (E : ℤ) - 129 by omega]
    exact hu
  · rw [Finset.le_fold_min]
    refine ⟨le_top, fun j _ => ?_⟩
    by_cases hj : (r : EReal) < two j * 448
    · rw [if_pos hj, two, EReal.coe_le_coe_iff]
      rw [two_mul_448, EReal.coe_lt_coe_iff] at hj
      have h3 : (2 : ℝ) ^ ((E : ℤ) - 130) < 2 ^ (((j : ℕ) : ℤ) - 120) := by
        have := lt_of_le_of_lt hl hj
        linarith
      have h4 := (zpow_lt_zpow_iff_right₀ (by norm_num : (1 : ℝ) < 2)).mp h3
      exact zpow_le_zpow_right₀ (by norm_num) (by omega)
    · rw [if_neg hj]; exact le_top

theorem scl_zero : scl 0 = 1 := if_pos rfl

/-- The exponent field that the kernel reads from a word. -/
def fieldOf (q : ℕ) : ℕ := (q + 1) / 4

theorem field_of_in {a : EReal} (h : In a) {q : ℕ} (hq : q < 1020) (hl : upper q ≤ a) (hu : a < upper (q + 1)) :
    10 ≤ fieldOf q ∧ fieldOf q ≤ 255 ∧ scl a = (((2 : ℝ) ^ ((fieldOf q : ℤ) - 135) : ℝ) : EReal) := by
  obtain ⟨ht, hm⟩ := h
  rw [tiny_eq] at ht
  rw [largest_eq] at hm
  induction a with
  | bot => exact absurd (le_bot_iff.mp ht) (EReal.coe_ne_bot _)
  | top => exact absurd (top_le_iff.mp hm) (EReal.coe_ne_top _)
  | coe r =>
  rw [EReal.coe_le_coe_iff] at ht hm
  have hE2 : fieldOf q ≤ 255 := by unfold fieldOf; omega
  have hE1 : 10 ≤ fieldOf q := by
    by_contra hc
    have hq' : q + 1 < 40 := by unfold fieldOf at hc; omega
    rw [upper_eq (by omega), EReal.coe_lt_coe_iff] at hu
    have h3 : (((q + 1) % 4 : ℕ) : ℝ) ≤ 3 := by exact_mod_cast (by omega : (q + 1) % 4 ≤ 3)
    have h4 : (if (q + 1) / 4 = 0 then (((q + 1) % 4 : ℕ) : ℝ) * 2 ^ (-128 : ℤ) else (4 + (((q + 1) % 4 : ℕ) : ℝ)) * 2 ^ ((((q + 1) / 4 : ℕ) : ℤ) - 129))
        ≤ 7 * (2 : ℝ) ^ (-120 : ℤ) := by
      split_ifs with h0
      · have : (2 : ℝ) ^ (-128 : ℤ) ≤ 2 ^ (-120 : ℤ) := zpow_le_zpow_right₀ (by norm_num) (by norm_num)
        have h5 : (0 : ℝ) < 2 ^ (-128 : ℤ) := by positivity
        nlinarith
      · have : (2 : ℝ) ^ ((((q + 1) / 4 : ℕ) : ℤ) - 129) ≤ 2 ^ (-120 : ℤ) := zpow_le_zpow_right₀ (by norm_num) (by omega)
        have h5 : (0 : ℝ) < 2 ^ ((((q + 1) / 4 : ℕ) : ℤ) - 129) := by positivity
        nlinarith
    exact absurd (lt_of_lt_of_le hu h4) (not_lt.mpr ht)
  refine ⟨hE1, hE2, scl_eq hE1 hE2 ?_ ?_⟩
  · rw [upper_eq hq, EReal.coe_le_coe_iff, if_neg (by unfold fieldOf at hE1; omega)] at hl
    refine le_trans ?_ hl
    by_cases h3 : q % 4 = 3
    · rw [show ((fieldOf q : ℤ) - 130) = (((q / 4 : ℕ) : ℤ) - 129) by unfold fieldOf; omega, h3]
      norm_num
    · rw [show (((q / 4 : ℕ) : ℤ) - 129) = ((fieldOf q : ℤ) - 130) + 1 by unfold fieldOf; omega, zpow_add₀ (by norm_num)]
      have h5 : (0 : ℝ) < 2 ^ ((fieldOf q : ℤ) - 130) := by positivity
      have h6 : (0 : ℝ) ≤ ((q % 4 : ℕ) : ℝ) := by positivity
      norm_num
      nlinarith
  · by_cases h255 : q + 1 < 1020
    · rw [upper_eq h255, EReal.coe_lt_coe_iff, if_neg (by unfold fieldOf at hE1; omega)] at hu
      refine lt_of_lt_of_le hu ?_
      have h3 : (((q + 1) % 4 : ℕ) : ℝ) ≤ 3 := by exact_mod_cast (by omega : (q + 1) % 4 ≤ 3)
      have h5 : (0 : ℝ) < 2 ^ ((((q + 1) / 4 : ℕ) : ℤ) - 129) := by positivity
      unfold fieldOf
      nlinarith
    · rw [show ((fieldOf q : ℤ) - 129) = 120 + 6 by unfold fieldOf; omega, zpow_add₀ (by norm_num)]
      have h5 : (0 : ℝ) < 2 ^ (120 : ℤ) := by positivity
      refine lt_of_le_of_lt hm ?_
      norm_num

theorem field_of_zero {q : ℕ} (hq : q < 1020) (hl : upper q ≤ 0) : fieldOf q = 0 := by
  rw [upper_eq hq, ← EReal.coe_zero, EReal.coe_le_coe_iff] at hl
  by_cases h0 : q / 4 = 0
  · rw [if_pos h0] at hl
    have : ((q % 4 : ℕ) : ℝ) ≤ 0 := by
      have h5 : (0 : ℝ) < 2 ^ (-128 : ℤ) := by positivity
      by_contra hc
      exact absurd (mul_pos (not_le.mp hc) h5) (not_lt.mpr hl)
    have : q % 4 = 0 := by exact_mod_cast le_antisymm this (by positivity)
    unfold fieldOf; omega
  · rw [if_neg h0] at hl
    exact absurd hl (not_le.mpr (by positivity))

end Cert.Scale
-- ==== Proof.Pair.lean ====
/- TWO ROWS IN ONE WORD. The kernel holds the exponent fields of two neighbouring rows in one 32-bit word, and takes
   the scales and their inverses by one subtraction on that word. Here: what each half of the result denotes, when no
   subtraction in the lower half borrows from the upper one. -/
module

public import proofs.«01_k».proof.Proof.Scale
public import Idealize.ShloMosaic.Lib.IdealHost

@[expose] public section

noncomputable section

namespace Cert.Scale

open Idealize.ShloMosaic

/-! ## Halves of a word -/

theorem append_toNat (x y : BitVec 16) : (x ++ y).toNat = 65536 * x.toNat + y.toNat := by
  rw [BitVec.toNat_append, ← Nat.shiftLeft_add_eq_or_of_lt y.isLt, Nat.shiftLeft_eq]
  omega

/-- Half `p` of a word. -/
def half (p : ℕ) (t : BitVec 32) : BitVec 16 := t.extractLsb' (16 * p) 16

theorem half_zero (x y : BitVec 16) : half 0 (x ++ y) = y := by
  apply BitVec.eq_of_toNat_eq
  rw [half, BitVec.extractLsb'_toNat, append_toNat, Nat.shiftRight_eq_div_pow]
  have := x.isLt; have := y.isLt
  omega

theorem half_one (x y : BitVec 16) : half 1 (x ++ y) = x := by
  apply BitVec.eq_of_toNat_eq
  rw [half, BitVec.extractLsb'_toNat, append_toNat, Nat.shiftRight_eq_div_pow]
  have := x.isLt; have := y.isLt
  omega

theorem half_zero_sub (a b c d : BitVec 16) : half 0 ((a ++ b) - (c ++ d)) = b - d := by
  apply BitVec.eq_of_toNat_eq
  rw [half, BitVec.extractLsb'_toNat, BitVec.toNat_sub, BitVec.toNat_sub, append_toNat, append_toNat, Nat.shiftRight_eq_div_pow]
  have := a.isLt; have := b.isLt; have := c.isLt; have := d.isLt
  omega

theorem half_one_sub (a b c d : BitVec 16) (h : d.toNat ≤ b.toNat) : half 1 ((a ++ b) - (c ++ d)) = a - c := by
  apply BitVec.eq_of_toNat_eq
  rw [half, BitVec.extractLsb'_toNat, BitVec.toNat_sub, BitVec.toNat_sub, append_toNat, append_toNat, Nat.shiftRight_eq_div_pow]
  have := a.isLt; have := b.isLt; have := c.isLt; have := d.isLt
  omega

theorem append_add (a b c d : BitVec 16) (h : b.toNat + d.toNat < 65536) : (a ++ b) + (c ++ d) = (a + c) ++ (b + d) := by
  apply BitVec.eq_of_toNat_eq
  rw [BitVec.toNat_add, append_toNat, append_toNat, append_toNat, BitVec.toNat_add, BitVec.toNat_add]
  have := a.isLt; have := b.isLt; have := c.isLt; have := d.isLt
  omega

theorem append_and (a b c d : BitVec 16) : (a ++ b) &&& (c ++ d) = (a &&& c) ++ (b &&& d) := by
  apply BitVec.eq_of_getLsbD_eq
  intro i hi
  simp only [BitVec.getLsbD_and, BitVec.getLsbD_append]
  split <;> rfl

/-! ## The fields -/

/-- The exponent fields of two magnitudes, the second in the lower half. -/
def fields (a1 a0 : EReal) : BitVec 32 := ((word a1 ++ word a0) + 2097184#32) &&& 2139127680#32

theorem mask_field : ∀ q : Fin 1020, (BitVec.ofNat 16 (32 * q.val) + 32#16) &&& 32640#16 = BitVec.ofNat 16 (128 * ((q.val + 1) / 4)) := by
  decide +kernel

theorem fields_eq {a1 a0 : EReal} {q1 q0 : ℕ} (h1 : q1 < 1020) (h0 : q0 < 1020) (e1 : word a1 = BitVec.ofNat 16 (32 * q1))
    (e0 : word a0 = BitVec.ofNat 16 (32 * q0)) :
    fields a1 a0 = BitVec.ofNat 16 (128 * fieldOf q1) ++ BitVec.ofNat 16 (128 * fieldOf q0) := by
  rw [fields, e1, e0, show (2097184#32 : BitVec 32) = 32#16 ++ 32#16 by decide,
    show (2139127680#32 : BitVec 32) = 32640#16 ++ 32640#16 by decide, append_add _ _ _ _ (by rw [BitVec.toNat_ofNat, BitVec.toNat_ofNat]; omega),
    append_and, mask_field ⟨q1, h1⟩, mask_field ⟨q0, h0⟩]
  rfl

/-- The value picked for a half: 1 where its field is below the range, what the word `x` denotes elsewhere. -/
def pick (t x : BitVec 16) : EReal :=
  if Ideal.ofBits .bf16 t < Ideal.ofBits .bf16 0x0500#16 then Ideal.ofBits .bf16 0x3F80#16 else Ideal.ofBits .bf16 x

theorem ofBits_field {e : ℕ} (h0 : 0 < e) (h : e < 255) :
    Ideal.ofBits .bf16 (BitVec.ofNat 16 (128 * e)) = (((2 : ℝ) ^ ((e : ℤ) - 127) : ℝ) : EReal) := by
  have := ofBits_word e 0 h (by norm_num)
  rw [show 32 * (4 * e + 0) = 128 * e by ring, if_neg (by omega)] at this
  rw [this]
  congr 1
  rw [show (e : ℤ) - 127 = ((e : ℤ) - 129) + 2 by ring, zpow_add₀ (by norm_num)]
  norm_num; ring

theorem low_eq : Ideal.ofBits .bf16 0x0500#16 = (((2 : ℝ) ^ (-117 : ℤ) : ℝ) : EReal) := by
  have := ofBits_field (e := 10) (by norm_num) (by norm_num)
  rw [show BitVec.ofNat 16 (128 * 10) = 0x0500#16 by decide] at this
  rw [this]; norm_num

theorem not_low {E : ℕ} (h1 : 10 ≤ E) (h2 : E ≤ 255) : ¬ Ideal.ofBits .bf16 (BitVec.ofNat 16 (128 * E)) < Ideal.ofBits .bf16 0x0500#16 := by
  by_cases h : E = 255
  · subst h
    rw [show Ideal.ofBits .bf16 (BitVec.ofNat 16 (128 * 255)) = ⊤ by simp [Ideal.ofBits, Ideal.ieee]]
    exact not_lt.mpr le_top
  · rw [ofBits_field (by omega) (by omega), low_eq, EReal.coe_lt_coe_iff, not_lt]
    exact zpow_le_zpow_right₀ (by norm_num) (by omega)

theorem pick_scale {E : ℕ} (h1 : 10 ≤ E) (h2 : E ≤ 255) :
    pick (BitVec.ofNat 16 (128 * E)) (BitVec.ofNat 16 (128 * E) - 1024#16) = (((2 : ℝ) ^ ((E : ℤ) - 135) : ℝ) : EReal) := by
  rw [pick, if_neg (not_low h1 h2)]
  rw [show BitVec.ofNat 16 (128 * E) - 1024#16 = BitVec.ofNat 16 (128 * (E - 8)) from BitVec.eq_of_toNat_eq (by
    rw [BitVec.toNat_sub, BitVec.toNat_ofNat, BitVec.toNat_ofNat, BitVec.toNat_ofNat]; omega), ofBits_field (by omega) (by omega),
    show ((E - 8 : ℕ) : ℤ) - 127 = (E : ℤ) - 135 by omega]

theorem pick_inv {E : ℕ} (h1 : 10 ≤ E) (h2 : E ≤ 255) :
    pick (BitVec.ofNat 16 (128 * E)) (33536#16 - BitVec.ofNat 16 (128 * E)) = (((2 : ℝ) ^ (135 - (E : ℤ)) : ℝ) : EReal) := by
  rw [pick, if_neg (not_low h1 h2)]
  rw [show 33536#16 - BitVec.ofNat 16 (128 * E) = BitVec.ofNat 16 (128 * (262 - E)) from BitVec.eq_of_toNat_eq (by
    rw [BitVec.toNat_sub, BitVec.toNat_ofNat, BitVec.toNat_ofNat, BitVec.toNat_ofNat]; omega), ofBits_field (by omega) (by omega),
    show ((262 - E : ℕ) : ℤ) - 127 = 135 - (E : ℤ) by omega]

theorem pick_low (x : BitVec 16) : pick (BitVec.ofNat 16 (128 * 0)) x = 1 := by
  rw [pick, if_pos, Ideal.ofBits_one_bf16]
  rw [show BitVec.ofNat 16 (128 * 0) = 0#16 by decide, Ideal.ofBits_zero_bf16, low_eq, ← EReal.coe_zero, EReal.coe_lt_coe_iff]
  positivity

theorem div_one_zpow (z : ℤ) : Ideal.div 1 (((2 : ℝ) ^ z : ℝ) : EReal) = (((2 : ℝ) ^ (-z) : ℝ) : EReal) := by
  rw [Ideal.div, if_neg (by exact_mod_cast (zpow_ne_zero z (by norm_num : (2 : ℝ) ≠ 0))), one_mul, zpow_neg, EReal.coe_inv]

theorem div_one_one : Ideal.div 1 1 = 1 := by
  have := div_one_zpow 0
  simpa using this

/-! ## The two rows -/

/-- The magnitudes of a row of even number and of the row after it, where the kernel's scales are the reference's:
    both in range; or the second zero and the first in range or zero as well. -/
def Good (a0 a1 : EReal) : Prop := (In a0 ∧ (In a1 ∨ a1 = 0)) ∨ (a0 = 0 ∧ a1 = 0)

theorem in_bounds {a : EReal} (h : In a) : 0 ≤ a ∧ a < ⊤ := by
  refine ⟨le_trans ?_ h.1, lt_of_le_of_lt h.2 ?_⟩
  · rw [tiny_eq, ← EReal.coe_zero, EReal.coe_le_coe_iff]; positivity
  · rw [largest_eq]; exact EReal.coe_lt_top _

/-- What is known of a magnitude's word: its field and the reference's scale. -/
theorem fine {a : EReal} (h : In a ∨ a = 0) :
    ∃ q, q < 1020 ∧ word a = BitVec.ofNat 16 (32 * q) ∧
      ((In a ∧ 10 ≤ fieldOf q ∧ fieldOf q ≤ 255 ∧ scl a = (((2 : ℝ) ^ ((fieldOf q : ℤ) - 135) : ℝ) : EReal)) ∨ (a = 0 ∧ fieldOf q = 0)) := by
  rcases h with h | rfl
  · obtain ⟨q, h1, h2, h3, h4⟩ := word_spec (in_bounds h).1 (in_bounds h).2
    exact ⟨q, h1, h2, Or.inl ⟨h, field_of_in h h1 h3 h4⟩⟩
  · obtain ⟨q, h1, h2, h3, -⟩ := word_spec (a := 0) le_rfl (EReal.zero_lt_top)
    exact ⟨q, h1, h2, Or.inr ⟨rfl, field_of_zero h1 h3⟩⟩

/-- The scale and the inverse that one half gives. -/
theorem half_value {a : EReal} {q : ℕ}
    (h : (In a ∧ 10 ≤ fieldOf q ∧ fieldOf q ≤ 255 ∧ scl a = (((2 : ℝ) ^ ((fieldOf q : ℤ) - 135) : ℝ) : EReal)) ∨ (a = 0 ∧ fieldOf q = 0)) :
    pick (BitVec.ofNat 16 (128 * fieldOf q)) (BitVec.ofNat 16 (128 * fieldOf q) - 1024#16) = scl a
      ∧ pick (BitVec.ofNat 16 (128 * fieldOf q)) (33536#16 - BitVec.ofNat 16 (128 * fieldOf q)) = Ideal.div 1 (scl a) := by
  rcases h with ⟨-, h1, h2, h3⟩ | ⟨rfl, h⟩
  · rw [pick_scale h1 h2, pick_inv h1 h2, h3, div_one_zpow, neg_sub]
    exact ⟨rfl, rfl⟩
  · rw [h, pick_low, pick_low, scl_zero, div_one_one]
    exact ⟨rfl, rfl⟩

/-- Each half of the kernel's words gives the reference's scale and its inverse. -/
theorem pair_value {a0 a1 : EReal} (h : Good a0 a1) (p : ℕ) (hp : p < 2) :
    pick (half p (fields a1 a0)) (half p (fields a1 a0 - 67109888#32)) = scl (if p = 0 then a0 else a1)
      ∧ pick (half p (fields a1 a0)) (half p (2197848832#32 - fields a1 a0)) = Ideal.div 1 (scl (if p = 0 then a0 else a1)) := by
  obtain ⟨q0, h0, w0, f0⟩ := fine (a := a0) (by rcases h with ⟨h, -⟩ | ⟨h, -⟩; exacts [Or.inl h, Or.inr h])
  obtain ⟨q1, h1, w1, f1⟩ := fine (a := a1) (by rcases h with ⟨-, h⟩ | ⟨-, h⟩; exacts [h, Or.inr h])
  have hb : ∀ q : ℕ, q < 1020 → fieldOf q ≤ 255 := fun q hq => by unfold fieldOf; omega
  rw [fields_eq h1 h0 w1 w0, show (67109888#32 : BitVec 32) = 1024#16 ++ 1024#16 by decide,
    show (2197848832#32 : BitVec 32) = 33536#16 ++ 33536#16 by decide]
  interval_cases p
  · rw [half_zero, half_zero_sub, half_zero_sub, if_pos rfl]
    exact half_value f0
  · rw [half_one, half_one_sub 33536#16 33536#16 _ _ (by
      have := hb q0 h0; rw [BitVec.toNat_ofNat, BitVec.toNat_ofNat]; omega), if_neg (by norm_num)]
    rcases f0 with ⟨-, hE, -, -⟩ | ⟨hz, hE⟩
    · rw [half_one_sub _ _ 1024#16 1024#16 (by
        have := hb q0 h0; rw [BitVec.toNat_ofNat, BitVec.toNat_ofNat]; omega)]
      exact half_value f1
    · have hz1 : a1 = 0 := by
        rcases h with ⟨h, -⟩ | ⟨-, h⟩
        · subst hz
          have := h.1
          rw [tiny_eq, ← EReal.coe_zero, EReal.coe_le_coe_iff] at this
          exact absurd this (not_le.mpr (by positivity))
        · exact h
      have hE1 : fieldOf q1 = 0 := by
        rcases f1 with ⟨hi, -⟩ | ⟨-, h⟩
        · rw [hz1] at hi
          have := hi.1
          rw [tiny_eq, ← EReal.coe_zero, EReal.coe_le_coe_iff] at this
          exact absurd this (not_le.mpr (by positivity))
        · exact h
      rw [hE1, hz1, pick_low, pick_low, scl_zero, div_one_one]
      exact ⟨rfl, rfl⟩

end Cert.Scale
-- ==== Proof.Spec.lean ====
/- THE RESULTS, as plain functions of rows: the group magnitudes, the codes, the dequantised rows and the product with
   the dequantised weights. Both programs are shown to compute these. -/
module

public import proofs.«01_k».proof.Proof.Pair
public import Idealize.ShloMosaic.Lib.ValueIdx

@[expose] public section

noncomputable section

namespace Cert.Spec

open Idealize.ShloMosaic Cert.Scale

/-- The largest magnitude of group `g` of 64 columns of a row. -/
def peak (f : ℕ → EReal) (g : ℕ) : EReal :=
  (Finset.univ : Finset (Fin 64)).fold max ⊥ (fun i => max (f (64 * g + i.val)) (-(f (64 * g + i.val))))

/-- The scale of group `g` of a row. -/
def scale (f : ℕ → EReal) (g : ℕ) : EReal := scl (peak f g)

/-- The code of column `k` of a row. -/
def code (f : ℕ → EReal) (k : ℕ) : EReal :=
  min (Ideal.ofBits .bf16 0x43E0#16) (max (Ideal.ofBits .bf16 0xC3E0#16) (f k * Ideal.div 1 (scale f (k / 64))))

/-- Column `k` of a row, dequantised. -/
def deq (f : ℕ → EReal) (k : ℕ) : EReal := code f k * scale f (k / 64)

/-- A row's product with a column of weights `w`, whose scales are `s`, one for each block of 128. -/
def prod (f w s : ℕ → EReal) : EReal := ∑ d : Fin 8192, deq f d.val * (w d.val * s (d.val / 128))

/-- Two neighbouring rows whose scales the kernel and the reference agree on. -/
def GoodRows (f0 f1 : ℕ → EReal) (g : ℕ) : Prop := Good (peak f0 g) (peak f1 g)

theorem peak_congr {f f' : ℕ → EReal} {g g' : ℕ} (h : ∀ i, i < 64 → f (64 * g + i) = f' (64 * g' + i)) : peak f g = peak f' g' := by
  unfold peak
  congr 1
  funext i
  rw [h i.val i.isLt]

theorem peak_nonneg (f : ℕ → EReal) (g : ℕ) : 0 ≤ peak f g := by
  unfold peak
  rw [Finset.le_fold_max]
  right
  refine ⟨0, Finset.mem_univ _, ?_⟩
  rcases le_total 0 (f (64 * g + (0 : Fin 64).val)) with h | h
  · exact le_trans h (le_max_left _ _)
  · exact le_trans (EReal.neg_nonneg.mpr h) (le_max_right _ _)

/-- The largest of a group's magnitudes, from all columns of two groups with the other group's columns put at 0. -/
theorem peak_eq_fold (f : ℕ → EReal) (g b : ℕ) (hb : b ≤ 1) (h : Fin 128 → EReal)
    (hin : ∀ k : Fin 128, k.val / 64 = b → h k = max (f (64 * g + k.val % 64)) (-(f (64 * g + k.val % 64))))
    (hout : ∀ k : Fin 128, k.val / 64 ≠ b → h k = 0) : (Finset.univ : Finset (Fin 128)).fold max ⊥ h = peak f g := by
  apply le_antisymm
  · rw [Finset.fold_max_le]
    refine ⟨bot_le, fun k _ => ?_⟩
    by_cases hk : k.val / 64 = b
    · rw [hin k hk, peak, Finset.le_fold_max]
      exact Or.inr ⟨⟨k.val % 64, Nat.mod_lt _ (by norm_num)⟩, Finset.mem_univ _, le_rfl⟩
    · rw [hout k hk]; exact peak_nonneg f g
  · rw [peak, Finset.fold_max_le]
    refine ⟨bot_le, fun i _ => ?_⟩
    rw [Finset.le_fold_max]
    refine Or.inr ⟨⟨64 * b + i.val, by have := i.isLt; omega⟩, Finset.mem_univ _, ?_⟩
    rw [hin _ (by have := i.isLt; show (64 * b + i.val) / 64 = b; omega),
      show (64 * b + i.val) % 64 = i.val by have := i.isLt; omega]

end Cert.Spec
-- ==== Proof.Blocks.lean ====
/- A BLOCK'S RESULTS AS PLAIN FUNCTIONS. The block functions of the kernel, at the extended reals: group magnitudes,
   scales and their inverses, codes and dequantised elements of a block, in terms of its rows. -/
module

public import proofs.«01_k».proof.Proof.Group
public import proofs.«01_k».proof.Proof.Spec
public import Idealize.ShloMosaic.Lib.BitcastPair
public import Idealize.ShloMosaic.Lib.Pointwise
public import Idealize.ShloMosaic.Lib.Pipeline.Value

@[expose] public section

set_option maxRecDepth 16384

noncomputable section

namespace Cert.KernelIdeal.Blocks

open Cert.KernelIdeal Cert.KernelIdeal.Gen Cert.Scale Cert.Spec
open Idealize.ShloMosaic

/-- The element of a block at a row and a column. -/
def at2 (r k : ℕ) : S32x128.Idx := ix2 ⟨r % 32, Nat.mod_lt _ (by norm_num)⟩ ⟨k % 128, Nat.mod_lt _ (by norm_num)⟩

/-- The element of a column at a row. -/
def col (r : ℕ) : S32x1.Idx := ix2 ⟨r % 32, Nat.mod_lt _ (by norm_num)⟩ ⟨0, by norm_num⟩

/-- The word of a pair of rows at a column. -/
def wat (p k : ℕ) : S16x128.Idx := ix2 ⟨p % 16, Nat.mod_lt _ (by norm_num)⟩ ⟨k % 128, Nat.mod_lt _ (by norm_num)⟩

theorem at2_0 (r k : ℕ) : (at2 r k 0).val = r % 32 := rfl
theorem at2_1 (r k : ℕ) : (at2 r k 1).val = k % 128 := rfl
theorem lt0 (j : S32x128.Idx) : (j 0).val < 32 := (j 0).isLt
theorem lt1 (j : S32x128.Idx) : (j 1).val < 128 := (j 1).isLt

theorem eq_at2 (j : S32x128.Idx) {r k : ℕ} (h0 : (j 0).val = r % 32) (h1 : (j 1).val = k % 128) : j = at2 r k := by
  funext a
  match a with
  | ⟨0, _⟩ => exact Fin.ext h0
  | ⟨1, _⟩ => exact Fin.ext h1

theorem eq_wat (j : S16x128.Idx) {r k : ℕ} (h0 : (j 0).val = r % 16) (h1 : (j 1).val = k % 128) : j = wat r k := by
  funext a
  match a with
  | ⟨0, _⟩ => exact Fin.ext h0
  | ⟨1, _⟩ => exact Fin.ext h1

theorem self_at2 (j : S32x128.Idx) : at2 (j 0).val (j 1).val = j :=
  (eq_at2 j (Nat.mod_eq_of_lt (lt0 j)).symm (Nat.mod_eq_of_lt (lt1 j)).symm).symm

/-- A row of a block, by column number. -/
def rowOf (v : S32x128.Idx → EReal) (r k : ℕ) : EReal := v (at2 r k)

theorem firstHalf_apply (j : S32x128.Idx) : Group.firstHalf Group.lanes j = if (j 1).val < 64 then 1#1 else 0#1 := by
  have h : ∀ k : Fin 128, (BitVec.ofBool ((BitVec.ofNat 32 (0 * 128 + k.val)).slt 64#32)) = if k.val < 64 then 1#1 else 0#1 := by
    decide +kernel
  exact h (j 1)

theorem rowMax_apply (v : FVec Ideal S32x128 .bf16) (r : ℕ) :
    Group.rowMax v (col r) = (Finset.univ : Finset (Fin 128)).fold max ⊥ (fun k => v (at2 r k.val)) := by
  have hb : (FloatOps.ofBits .bf16 0xFF80#16 : Ideal .bf16) = (⊥ : EReal) := by
    show Ideal.ofBits .bf16 0xFF80#16 = ⊥
    simp [Ideal.ofBits, Ideal.ieee]
  unfold Group.rowMax
  rw [shapeCast_apply _ _ (col r) (ix1 ⟨r % 32, Nat.mod_lt _ (by norm_num)⟩ : S32.Idx) (by
    rw [Shape.rowMajor_val_one, Shape.rowMajor_val_two]
    show r % 32 = r % 32 * 1 + 0
    omega)]
  refine (multiReduction_maximumf_eq_fold v 0xFF80#16 reduces_S32x128_S32 (.inr rfl) rfl _).trans ?_
  rw [Shape.Reduces.fold_fiber_r2_a1, hb]
  have e : (fun k : Fin 128 => v (ix2 ⟨r % 32, Nat.mod_lt _ (by norm_num)⟩ k)) = fun k => v (at2 r k.val) :=
    funext fun k => congrArg v (eq_at2 _ rfl (Nat.mod_eq_of_lt k.isLt).symm)
  exact congrArg (fun f : Fin 128 → EReal => (Finset.univ : Finset (Fin 128)).fold max ⊥ f) e

theorem across_col {φ : FTy} (x : FVec Ideal S32x1 φ) (j : S32x128.Idx) :
    broadcastTo S32x128 (shapeCast S32x1 x shapeCasts_S32x1_S32x1) broadcasts_S32x1_S32x128 j = x (col (j 0).val) := by
  refine (broadcastTo_apply _ _ j (col (j 0).val) (fun a => ?_)).trans (shapeCast_apply _ _ _ _ rfl)
  match a with
  | ⟨0, _⟩ => exact Nat.mod_eq_of_lt (lt0 j)
  | ⟨1, _⟩ => rfl

theorem bcast_app {α : Type} {s : Shape} (x : α) (i : s.Idx) : broadcast s x i = x := rfl
theorem subi_app {s : Shape} {n : ℕ} (a b : IVec s n) (i : s.Idx) : subi a b i = a i - b i := rfl
theorem addi_app {s : Shape} {n : ℕ} (a b : IVec s n) (i : s.Idx) : addi a b i = a i + b i := rfl
theorem andi_app {s : Shape} {n : ℕ} (a b : IVec s n) (i : s.Idx) : andi a b i = a i &&& b i := rfl
theorem bits_app {φ : FTy} (w : BitVec φ.bits) : (Scalar.ofBits φ w : Ideal φ) = Ideal.ofBits φ w := rfl
theorem lt_app {φ : FTy} {s : Shape} (a b : FVec Ideal s φ) (i : s.Idx) :
    cmpf .olt a b i = BitVec.ofBool (decide ((a i : EReal) < (b i : EReal))) := rfl
theorem mul_app {φ : FTy} {s : Shape} (a b : FVec Ideal s φ) (i : s.Idx) : mulf a b i = (a i * b i : EReal) := rfl
theorem ext_app {φ φ' : FTy} {s : Shape} (a : FVec Ideal s φ) (h : φ.bits < φ'.bits) (i : s.Idx) : extf φ' a h i = a i := rfl
theorem clip_app {s : Shape} (lo hi : EReal) (v : FVec Ideal s .bf16) (h : FTy.bits .fp8e4m3 < FTy.bits .bf16) (i : s.Idx) :
    truncf .fp8e4m3 (minimumf (broadcast s (hi : Ideal .bf16)) (maximumf (broadcast s (lo : Ideal .bf16)) v)) h i
      = min hi (max lo (v i : EReal)) := rfl

theorem select_app {α : Type} {s : Shape} (c : IVec s 1) (a b : s.Idx → α) (i : s.Idx) : select c a b i = Scalar.select (c i) (a i) (b i) := rfl
theorem sel_one {α : Type} (a b : α) : Scalar.select 1#1 a b = a := rfl
theorem sel_zero {α : Type} (a b : α) : Scalar.select 0#1 a b = b := rfl

/-- The magnitudes of a block. -/
theorem amax_apply (v : FVec Ideal S32x128 .bf16) (j : S32x128.Idx) :
    Group.amax Group.lanes v j = peak (rowOf v (j 0).val) ((j 1).val / 64) := by
  have hz : (Scalar.ofBits .bf16 0x0000#16 : Ideal .bf16) = (0 : EReal) := Ideal.ofBits_zero_bf16
  have h1 := lt1 j
  have hrow : ∀ k : Fin 128, ∀ g : ℕ, k.val / 64 = g → rowOf v (j 0).val (64 * g + k.val % 64) = v (at2 (j 0).val k.val) := by
    intro k g hk
    rw [rowOf, show 64 * g + k.val % 64 = k.val by omega]
  have hk1 : ∀ k : Fin 128, (at2 (j 0).val k.val 1).val = k.val := fun k => Nat.mod_eq_of_lt k.isLt
  unfold Group.amax
  rw [select_app, firstHalf_apply]
  by_cases h : (j 1).val < 64
  · rw [if_pos h, sel_one, Group.across, across_col, rowMax_apply, show (j 1).val / 64 = 0 by omega]
    refine peak_eq_fold _ 0 0 (by norm_num) _ (fun k hk => ?_) (fun k hk => ?_)
    · rw [select_app, firstHalf_apply, hk1, if_pos (by omega), sel_one, hrow k 0 hk]
      rfl
    · rw [select_app, firstHalf_apply, hk1, if_neg (by omega), sel_zero]
      exact hz
  · rw [if_neg h, sel_zero, Group.across, across_col, rowMax_apply, show (j 1).val / 64 = 1 by omega]
    refine peak_eq_fold _ 1 1 (by norm_num) _ (fun k hk => ?_) (fun k hk => ?_)
    · rw [select_app, firstHalf_apply, hk1, if_neg (by omega), sel_zero, hrow k 1 hk]
      rfl
    · rw [select_app, firstHalf_apply, hk1, if_pos (by have := k.isLt; omega), sel_one]
      exact hz

theorem wordStep_apply (a : FVec Ideal S32x128 .bf16) (bit : BitVec 16) (w : IVec S32x128 16) (i : S32x128.Idx) :
    Group.wordStep a bit w i = keep (a i) bit (w i) := by
  show Scalar.select (BitVec.ofBool (decide (Ideal.ofBits .bf16 (w i ||| bit) ≤ a i))) (w i ||| bit) (w i) = _
  unfold keep
  by_cases h : Ideal.ofBits .bf16 (w i ||| bit) ≤ a i
  · rw [if_pos h, decide_eq_true h]; exact sel_one _ _
  · rw [if_neg h, decide_eq_false h]; exact sel_zero _ _

theorem words_apply (a : FVec Ideal S32x128 .bf16) (i : S32x128.Idx) : Group.words a i = word (a i) := by
  unfold Group.words word
  simp only [wordStep_apply]
  rfl

theorem expo_apply (a : FVec Ideal S32x128 .bf16) (p k : ℕ) (hp : p < 16) :
    Group.expo a (wat p k) = fields (a (at2 (2 * p + 1) k)) (a (at2 (2 * p) k)) := by
  have e : ∀ (q : ℕ) (hq : ∀ b : Fin S32x128.rank, b.val + 2 = S32x128.rank → q < S32x128.size b) (hq' : q < 32),
      bitcasts_S32x128_w16_S16x128_w32.srcIdx (wat p k) q hq = at2 q k := fun q hq hq' =>
    eq_at2 _ (Nat.mod_eq_of_lt hq').symm rfl
  show (bitcast S16x128 32 (Group.words a) bitcasts_S32x128_w16_S16x128_w32 (wat p k) + 2097184#32) &&& 2139127680#32 = _
  have hr : S16x128.row (wat p k) = p := Nat.mod_eq_of_lt hp
  rw [bitcast_16_32, e _ _ (by rw [hr]; omega), e _ _ (by rw [hr]; omega), words_apply, words_apply, hr]
  rfl

theorem floats_apply (t : IVec S16x128 32) (j : S32x128.Idx) :
    Group.floats (F := Ideal) t j = Ideal.ofBits .bf16 (half ((j 0).val % 2) (t (wat ((j 0).val / 2) (j 1).val))) := by
  have h0 := lt0 j
  show Ideal.ofBits .bf16 (bitcast S32x128 16 t bitcasts_S16x128_w32_S32x128_w16 j) = _
  rw [bitcast_32_16]
  refine congrArg (Ideal.ofBits .bf16) (congrArg (fun z : BitVec 32 => half ((j 0).val % 2) z) (congrArg t ?_))
  exact eq_wat _ (by show (j 0).val / 2 = (j 0).val / 2 % 16; omega) (Nat.mod_eq_of_lt (lt1 j)).symm

/-- The magnitudes of the two rows that share a word with an element. -/
def GoodAt (a : S32x128.Idx → EReal) (j : S32x128.Idx) : Prop :=
  Good (a (at2 (2 * ((j 0).val / 2)) (j 1).val)) (a (at2 (2 * ((j 0).val / 2) + 1) (j 1).val))

theorem pick_of_select (t x : BitVec 16) :
    Scalar.select (BitVec.ofBool (decide (Ideal.ofBits .bf16 t < Ideal.ofBits .bf16 0x0500#16))) (Ideal.ofBits .bf16 0x3F80#16)
      (Ideal.ofBits .bf16 x) = pick t x := by
  unfold pick
  by_cases h : Ideal.ofBits .bf16 t < Ideal.ofBits .bf16 0x0500#16
  · rw [if_pos h, decide_eq_true h]; exact sel_one _ _
  · rw [if_neg h, decide_eq_false h]; exact sel_zero _ _

theorem own_row (a : S32x128.Idx → EReal) (j : S32x128.Idx) :
    (if (j 0).val % 2 = 0 then a (at2 (2 * ((j 0).val / 2)) (j 1).val) else a (at2 (2 * ((j 0).val / 2) + 1) (j 1).val)) = a j := by
  by_cases h : (j 0).val % 2 = 0
  · rw [if_pos h, show 2 * ((j 0).val / 2) = (j 0).val by omega, self_at2]
  · rw [if_neg h, show 2 * ((j 0).val / 2) + 1 = (j 0).val by omega, self_at2]

/-- The scale and the inverse the kernel makes from magnitudes. -/
theorem scaleOf_apply (a : FVec Ideal S32x128 .bf16) (j : S32x128.Idx) (h : GoodAt a j) :
    Group.scaleOf a j = scl (a j) ∧ Group.invOf a j = Ideal.div 1 (scl (a j)) := by
  have key := pair_value h ((j 0).val % 2) (Nat.mod_lt _ (by norm_num))
  have h0 := lt0 j
  have ht : Group.tiny a j = BitVec.ofBool (decide (Ideal.ofBits .bf16 (half ((j 0).val % 2) (Group.expo a (wat ((j 0).val / 2) (j 1).val)))
      < Ideal.ofBits .bf16 0x0500#16)) := by
    rw [← floats_apply, Group.tiny, lt_app, bcast_app, bits_app]
  have hs : Group.scaleOf a j = pick (half ((j 0).val % 2) (Group.expo a (wat ((j 0).val / 2) (j 1).val)))
      (half ((j 0).val % 2) (Group.expo a (wat ((j 0).val / 2) (j 1).val) - 67109888#32)) := by
    rw [← pick_of_select, ← ht, Group.scaleOf, select_app, floats_apply, bcast_app, bits_app, subi_app, bcast_app]
  have hi : Group.invOf a j = pick (half ((j 0).val % 2) (Group.expo a (wat ((j 0).val / 2) (j 1).val)))
      (half ((j 0).val % 2) (2197848832#32 - Group.expo a (wat ((j 0).val / 2) (j 1).val))) := by
    rw [← pick_of_select, ← ht, Group.invOf, select_app, floats_apply, bcast_app, bits_app, subi_app, bcast_app]
  rw [hs, hi, expo_apply _ _ _ (by omega), ← own_row a j]
  exact key

/-- The two rows that share a word with a row, as rows of the block. -/
def GoodBlock (v : S32x128.Idx → EReal) (r g : ℕ) : Prop := GoodRows (rowOf v (2 * (r / 2))) (rowOf v (2 * (r / 2) + 1)) g

theorem goodAt_of_block {v : FVec Ideal S32x128 .bf16} {j : S32x128.Idx} (h : GoodBlock v (j 0).val ((j 1).val / 64)) :
    GoodAt (Group.amax Group.lanes v) j := by
  have h0 := lt0 j
  unfold GoodAt
  rw [amax_apply, amax_apply, at2_0, at2_0, at2_1, at2_1, Nat.mod_eq_of_lt (lt1 j), Nat.mod_eq_of_lt (by omega), Nat.mod_eq_of_lt (by omega)]
  exact h

theorem blk_eq (v : FVec Ideal S32x128 .bf16) : Group.blk v = v := by
  funext j
  exact shapeCast_apply _ _ j j rfl

theorem rowOf_self (v : S32x128.Idx → EReal) (j : S32x128.Idx) : rowOf v (j 0).val (j 1).val = v j := by
  rw [rowOf, self_at2]

theorem scale_apply (v : FVec Ideal S32x128 .bf16) (j : S32x128.Idx) (h : GoodBlock v (j 0).val ((j 1).val / 64)) :
    Group.scaleOf (Group.amax Group.lanes v) j = scale (rowOf v (j 0).val) ((j 1).val / 64) := by
  rw [(scaleOf_apply _ j (goodAt_of_block h)).1, amax_apply]
  rfl

theorem scale_at (v : FVec Ideal S32x128 .bf16) (r k : ℕ) (hr : r < 32) (hk : k < 128) (h : GoodBlock v r (k / 64)) :
    Group.scaleOf (Group.amax Group.lanes v) (at2 r k) = scale (rowOf v r) (k / 64) := by
  have := scale_apply v (at2 r k)
  rw [at2_0, at2_1, Nat.mod_eq_of_lt hr, Nat.mod_eq_of_lt hk] at this
  exact this h

theorem codes_apply (v : FVec Ideal S32x128 .bf16) (j : S32x128.Idx) (h : GoodBlock v (j 0).val ((j 1).val / 64)) :
    Group.codes (F := Ideal) Group.lanes v j = code (rowOf v (j 0).val) (j 1).val := by
  unfold Group.codes
  rw [blk_eq, clip_app, mul_app, bits_app, bits_app]
  rw [(scaleOf_apply _ j (goodAt_of_block h)).2, amax_apply]
  unfold code scale
  rw [rowOf_self]

theorem deq_apply (v : FVec Ideal S32x128 .bf16) (j : S32x128.Idx) (h : GoodBlock v (j 0).val ((j 1).val / 64)) :
    Group.deq (F := Ideal) Group.lanes v j = deq (rowOf v (j 0).val) (j 1).val := by
  unfold Group.deq
  rw [shapeCast_apply _ _ j j rfl, blk_eq, mul_app, show extf .bf16 (Group.codes (F := Ideal) Group.lanes v) bitsLt_fp8e4m3_bf16 j = Group.codes (F := Ideal) Group.lanes v j from rfl]
  rw [codes_apply v j h, scale_apply v j h]
  rfl

/-- What a column of the array of scales holds after a block's two are put: its scale, where the column is one of the
    two. -/
theorem putScales_apply (v : FVec Ideal S32x128 .bf16) (acc : FVec Ideal S32x128 .f32) (n : ℕ) (hn : n < 64) (j : S32x128.Idx) :
    Group.putScales Group.lanes (BitVec.ofNat 32 (2 * n)) (BitVec.ofNat 32 (2 * n + 1)) v acc j
      = if (j 1).val = 2 * n + 1 then Group.scaleOf (Group.amax Group.lanes v) (at2 (j 0).val 64)
        else if (j 1).val = 2 * n then Group.scaleOf (Group.amax Group.lanes v) (at2 (j 0).val 0) else acc j := by
  have hc : ∀ p : ℕ, p < 128 → cmpi .eq Group.lanes (broadcast S32x128 (BitVec.ofNat 32 p)) j = if (j 1).val = p then 1#1 else 0#1 := by
    intro p hp
    have h1 : (j 1).val < 128 := (j 1).isLt
    show BitVec.ofBool (BitVec.ofNat 32 (0 * 128 + (j 1).val) == BitVec.ofNat 32 p) = _
    by_cases h : (j 1).val = p
    · rw [if_pos h, h]; simp
    · rw [if_neg h]
      have hne : BitVec.ofNat 32 (0 * 128 + (j 1).val) ≠ BitVec.ofNat 32 p := by
        intro e
        have := congrArg BitVec.toNat e
        rw [BitVec.toNat_ofNat, BitVec.toNat_ofNat] at this
        omega
      rw [beq_eq_false_iff_ne.mpr hne]; rfl
  unfold Group.putScales
  rw [blk_eq, select_app, hc _ (by omega), across_col]
  by_cases h1 : (j 1).val = 2 * n + 1
  · rw [if_pos h1, if_pos h1, sel_one, extractStridedSlice_apply _ _ _ _ (at2 (j 0).val 64) (by
      intro a; match a with | ⟨0, _⟩ => (exact (Nat.zero_add _).symm) | ⟨1, _⟩ => rfl), ext_app]
  · rw [if_neg h1, if_neg h1, sel_zero, select_app, hc _ (by omega), across_col]
    by_cases h2 : (j 1).val = 2 * n
    · rw [if_pos h2, if_pos h2, sel_one, extractStridedSlice_apply _ _ _ _ (at2 (j 0).val 0) (by
        intro a; match a with | ⟨0, _⟩ => (exact (Nat.zero_add _).symm) | ⟨1, _⟩ => rfl), ext_app]
    · rw [if_neg h2, if_neg h2, sel_zero]

/-- The scales of the first `n` blocks. -/
theorem scales_apply (V : ℕ → FVec Ideal S32x128 .bf16) (j : S32x128.Idx) (n : ℕ) (hn : n ≤ 64) (hj : (j 1).val < 2 * n)
    (h : GoodBlock (V ((j 1).val / 2)) (j 0).val ((j 1).val % 2)) :
    Group.scales (F := Ideal) Group.lanes V n j = scale (rowOf (V ((j 1).val / 2)) (j 0).val) ((j 1).val % 2) := by
  induction n with
  | zero => omega
  | succ n ih =>
    rw [Group.scales]
    rw [putScales_apply _ _ n (by omega)]
    by_cases h1 : (j 1).val = 2 * n + 1
    · rw [if_pos h1]
      rw [show (j 1).val / 2 = n by omega, show (j 1).val % 2 = 1 by omega] at h ⊢
      exact scale_at (V n) (j 0).val 64 (lt0 j) (by norm_num) h
    · rw [if_neg h1]
      by_cases h2 : (j 1).val = 2 * n
      · rw [if_pos h2]
        rw [show (j 1).val / 2 = n by omega, show (j 1).val % 2 = 0 by omega] at h ⊢
        exact scale_at (V n) (j 0).val 0 (lt0 j) (by norm_num) h
      · rw [if_neg h2]
        exact ih (by omega) (by omega)

end Cert.KernelIdeal.Blocks
-- ==== Proof.BlockRows.lean ====
/- A BLOCK OF ROWS: what the loop leaves in the 256 rows of a grid point, as plain functions of those rows. -/
module

public import proofs.«01_k».proof.Proof.Blocks
public import proofs.«01_k».proof.Proof.Loop

@[expose] public section

set_option maxRecDepth 16384

noncomputable section

namespace Cert.KernelIdeal.BlockRows

open Cert.KernelIdeal Cert.KernelIdeal.Gen Cert.Scale Cert.Spec Cert.KernelIdeal.Blocks
open Idealize.ShloMosaic

/-- A row of the grid point's rows, by column number. -/
def brow (X : S256x8192.Idx → EReal) (r k : ℕ) : EReal := X (ix2 ⟨r % 256, by omega⟩ ⟨k % 8192, by omega⟩)

section shift
variable {f f' : ℕ → EReal} {j : ℕ} (hf : ∀ i, i < 128 → f' i = f (128 * j + i))
include hf

theorem peak_shift {g : ℕ} (hg : g < 2) : peak f' g = peak f (2 * j + g) :=
  peak_congr fun i hi => by rw [hf _ (by omega), show 128 * j + (64 * g + i) = 64 * (2 * j + g) + i by ring]

theorem scale_shift {g : ℕ} (hg : g < 2) : scale f' g = scale f (2 * j + g) := by
  unfold scale; rw [peak_shift hf hg]

theorem code_shift {k : ℕ} (hk : k < 128) : code f' k = code f (128 * j + k) := by
  unfold code
  rw [hf k hk, scale_shift hf (by omega), show (128 * j + k) / 64 = 2 * j + k / 64 by omega]

theorem deq_shift {k : ℕ} (hk : k < 128) : deq f' k = deq f (128 * j + k) := by
  unfold deq
  rw [code_shift hf hk, scale_shift hf (by omega), show (128 * j + k) / 64 = 2 * j + k / 64 by omega]

end shift

theorem rowOf_cut (X : S256x8192.Idx → EReal) (b j r i : ℕ) (hr : r < 32) (hi : i < 128) :
    rowOf (Trip.cut (F := Ideal) X (32 * b) j) r i = brow X (32 * b + r) (128 * j + i) := by
  refine congrArg X (funext fun a => Fin.ext ?_)
  match a with
  | 0 => show (32 * b + r % 32) % 256 = (32 * b + r) % 256; omega
  | 1 => show (128 * j + i % 128) % 8192 = (128 * j + i) % 8192; omega

/-- Every pair of neighbouring rows is in range. -/
def AllGood (X : S256x8192.Idx → EReal) : Prop := ∀ p g, p < 128 → g < 128 → GoodRows (brow X (2 * p)) (brow X (2 * p + 1)) g

theorem goodBlock {X : S256x8192.Idx → EReal} (h : AllGood X) (b j r g : ℕ) (hb : b < 8) (hj : j < 64) (hr : r < 32) (hg : g < 2) :
    GoodBlock (Trip.cut (F := Ideal) X (32 * b) j) r g := by
  have := h (16 * b + r / 2) (2 * j + g) (by omega) (by omega)
  unfold GoodBlock
  unfold GoodRows at this ⊢
  rw [peak_shift (fun i hi => rowOf_cut X b j (2 * (r / 2)) i (by omega) hi) hg,
    peak_shift (fun i hi => rowOf_cut X b j (2 * (r / 2) + 1) i (by omega) hi) hg,
    show 32 * b + 2 * (r / 2) = 2 * (16 * b + r / 2) by ring, show 32 * b + (2 * (r / 2) + 1) = 2 * (16 * b + r / 2) + 1 by ring]
  exact this

theorem inBlock_0 (y : S256x8192.Idx) : (Trip.inBlock y 0).val = (y 0).val % 32 := rfl
theorem inBlock_1 (y : S256x8192.Idx) : (Trip.inBlock y 1).val = (y 1).val % 128 := rfl

variable {X : S256x8192.Idx → EReal} (h : AllGood X)
include h

theorem codes_rows (y : S256x8192.Idx) :
    Trip.byBlocks (F := Ideal) (e := .fp8e4m3) (Group.codes Group.lanes) X y = code (brow X (y 0).val) (y 1).val := by
  have h0 : (y 0).val < 256 := (y 0).isLt
  have h1 : (y 1).val < 8192 := (y 1).isLt
  rw [Trip.byBlocks, codes_apply _ _ (by rw [inBlock_0, inBlock_1]; exact goodBlock h _ _ _ _ (by omega) (by omega) (by omega) (by omega)),
    inBlock_0, inBlock_1,
    code_shift (fun i hi => rowOf_cut X _ _ _ i (by omega) hi) (by omega), Nat.div_add_mod, Nat.div_add_mod]

theorem deq_rows (y : S256x8192.Idx) :
    Trip.byBlocks (F := Ideal) (e := .bf16) (Group.deq Group.lanes) X y = deq (brow X (y 0).val) (y 1).val := by
  have h0 : (y 0).val < 256 := (y 0).isLt
  have h1 : (y 1).val < 8192 := (y 1).isLt
  rw [Trip.byBlocks, deq_apply _ _ (by rw [inBlock_0, inBlock_1]; exact goodBlock h _ _ _ _ (by omega) (by omega) (by omega) (by omega)),
    inBlock_0, inBlock_1,
    deq_shift (fun i hi => rowOf_cut X _ _ _ i (by omega) hi) (by omega), Nat.div_add_mod, Nat.div_add_mod]

theorem scales_rows (y : S256x128.Idx) :
    Loop.allScales (F := Ideal) Group.lanes X y = scale (brow X (y 0).val) (y 1).val := by
  have h0 : (y 0).val < 256 := (y 0).isLt
  have h1 : (y 1).val < 128 := (y 1).isLt
  have e := scales_apply (fun j => Trip.cut (F := Ideal) X (32 * ((y 0).val / 32)) j)
    (ValueIdx.ix2 ⟨(y 0).val % 32, Nat.mod_lt _ (by decide)⟩ (y 1)) 64 (le_refl _) (show (y 1).val < 2 * 64 by omega)
    (goodBlock h ((y 0).val / 32) ((y 1).val / 2) ((y 0).val % 32) ((y 1).val % 2) (by omega) (by omega) (by omega) (by omega))
  rw [Loop.allScales]
  refine e.trans ?_
  refine (scale_shift (g := (y 1).val % 2) (fun i hi => rowOf_cut X ((y 0).val / 32) ((y 1).val / 2) ((y 0).val % 32) i (by omega) hi) (by omega)).trans ?_
  rw [Nat.div_add_mod, Nat.div_add_mod]

end Cert.KernelIdeal.BlockRows
-- ==== Proof.Target.lean ====
/- THE RESULTS OF THE PROGRAMS, as functions of the three arguments index by index. -/
module

public import proofs.«01_k».proof.Proof.Spec
public import Idealize.ShloMosaic.Lib.Pointwise

@[expose] public section

noncomputable section

namespace Cert.Target

open Idealize.ShloMosaic Cert.Scale Cert.Spec

/-- Row `r` of the activations, all leading axes taken as one. -/
def row (A : (⟨3, ![8, 1536, 8192]⟩ : Shape).Idx → EReal) (r k : ℕ) : EReal :=
  A (ix3 ⟨r / 1536 % 8, Nat.mod_lt _ (by norm_num)⟩ ⟨r % 1536, Nat.mod_lt _ (by norm_num)⟩ ⟨k % 8192, Nat.mod_lt _ (by norm_num)⟩)

/-- Column `o` of head `h`'s weights. -/
def wcol (A : (⟨3, ![16, 8192, 256]⟩ : Shape).Idx → EReal) (h o d : ℕ) : EReal :=
  A (ix3 ⟨h % 16, Nat.mod_lt _ (by norm_num)⟩ ⟨d % 8192, Nat.mod_lt _ (by norm_num)⟩ ⟨o % 256, Nat.mod_lt _ (by norm_num)⟩)

/-- The scales of that column, one for each block of 128 rows. -/
def scol (A : (⟨3, ![16, 64, 2]⟩ : Shape).Idx → EReal) (h o b : ℕ) : EReal :=
  A (ix3 ⟨h % 16, Nat.mod_lt _ (by norm_num)⟩ ⟨b % 64, Nat.mod_lt _ (by norm_num)⟩ ⟨o / 128 % 2, Nat.mod_lt _ (by norm_num)⟩)

/-- The product. -/
def outT (A0 : (⟨3, ![8, 1536, 8192]⟩ : Shape).Idx → EReal) (A1 : (⟨3, ![16, 8192, 256]⟩ : Shape).Idx → EReal)
    (A2 : (⟨3, ![16, 64, 2]⟩ : Shape).Idx → EReal) (y : (⟨3, ![12288, 16, 256]⟩ : Shape).Idx) : EReal :=
  prod (row A0 (y 0).val) (wcol A1 (y 1).val (y 2).val) (scol A2 (y 1).val (y 2).val)

/-- The codes. -/
def codesT (A0 : (⟨3, ![8, 1536, 8192]⟩ : Shape).Idx → EReal) (y : (⟨2, ![12288, 8192]⟩ : Shape).Idx) : EReal :=
  code (row A0 (y 0).val) (y 1).val

/-- The scales. -/
def scalesT (A0 : (⟨3, ![8, 1536, 8192]⟩ : Shape).Idx → EReal) (y : (⟨2, ![12288, 128]⟩ : Shape).Idx) : EReal :=
  scale (row A0 (y 0).val) (y 1).val

end Cert.Target
-- ==== Proof.KernelHost.lean ====
/- WHAT THE KERNEL'S WINDOWS READ: the arrays the host operations leave, and a grid point's blocks of them. -/
module

public import proofs.«01_k».proof.Proof.Body
public import proofs.«01_k».proof.Proof.BlockRows
public import proofs.«01_k».proof.Proof.Target
public import Idealize.ShloMosaic.Lib.Pointwise
public import Idealize.ShloMosaic.Lib.StableHlo.ReadAt

@[expose] public section

set_option maxRecDepth 16384
set_option maxHeartbeats 1000000

noncomputable section

namespace Cert.KernelIdeal.Host

open Cert.KernelIdeal Cert.KernelIdeal.Gen Cert.Spec Cert.Target
open Idealize.ShloMosaic Idealize.ShloMosaic.TcCoe

variable (m : (ℓ : Loc nD τ sig) → Buf (Elt Ideal) ℓ)

theorem v3_apply (c : Dev nD) (r : Fin 12288) (k : Fin 8192) :
    V m c main_v3 (ix2 r k) = row (m (c, Proc.devRef .tc main_arg0)) r.val k.val := by
  unfold V
  try simp only [List.flatten_cons, List.flatten_nil, List.cons_append, List.nil_append, List.append_nil]
  after_reads_at
  have hr := r.isLt
  have hk := k.isLt
  unfold row
  congr 1
  rw [ix3_inj]
  exact ⟨Fin.ext (by dsimp only; omega), Fin.ext (by dsimp only; try omega), Fin.ext (by dsimp only; omega)⟩

theorem v2_apply (c : Dev nD) (h : Fin 16) (b : Fin 64) (o : Fin 256) :
    V m c main_v2 (ix3 h b o) = scol (m (c, Proc.devRef .tc main_arg2)) h.val o.val b.val := by
  unfold V
  try simp only [List.flatten_cons, List.flatten_nil, List.cons_append, List.nil_append, List.append_nil]
  after_reads_at
  have hh := h.isLt
  have hb := b.isLt
  have ho := o.isLt
  unfold scol
  congr 1
  rw [ix3_inj]
  exact ⟨Fin.ext (by dsimp only; omega), Fin.ext (by dsimp only; omega), Fin.ext (by dsimp only; omega)⟩

theorem arg1_apply (c : Dev nD) (h : Fin 16) (d : Fin 8192) (o : Fin 256) :
    V m c main_arg1 (ix3 h d o) = wcol (m (c, Proc.devRef .tc main_arg1)) h.val o.val d.val := by
  rw [V_main_arg1]
  have hh := h.isLt
  have hd := d.isLt
  have ho := o.isLt
  unfold wcol
  show m (c, Proc.devRef .tc main_arg1) (ix3 h d o) = _
  congr 1
  rw [ix3_inj]
  exact ⟨Fin.ext (by dsimp only; omega), Fin.ext (by dsimp only; omega), Fin.ext (by dsimp only; omega)⟩

theorem index1 : ∀ t : Fin grid0.N, win0_1.index t 0 = t.val ∧ win0_1.index t 1 = 0 := by decide +kernel
theorem index0 : ∀ t : Fin grid0.N, win0_0.index t 0 = 0 ∧ win0_0.index t 1 = 0 ∧ win0_0.index t 2 = 0 := by decide +kernel
theorem index2 : ∀ t : Fin grid0.N, win0_2.index t 0 = 0 ∧ win0_2.index t 1 = 0 ∧ win0_2.index t 2 = 0 := by decide +kernel
theorem index3 : ∀ t : Fin grid0.N, win0_3.index t 0 = t.val ∧ win0_3.index t 1 = 0 ∧ win0_3.index t 2 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel

theorem lt_points (t : Fin cfg0.N) : t.val < 48 := t.isLt

/-- A row of a grid point's block of activations. -/
theorem rows_apply (c : Dev nD) (t : Fin cfg0.N) (r : ℕ) (hr : r < 256) :
    BlockRows.brow (iblk m c 1 t : S256x8192.Idx → EReal) r = row (m (c, Proc.devRef .tc main_arg0)) (256 * t.val + r) := by
  funext k
  have ht := lt_points t
  have e : row (m (c, Proc.devRef .tc main_arg0)) (256 * t.val + r) k
      = V m c main_v3 (ix2 ⟨256 * t.val + r, by omega⟩ ⟨k % 8192, by omega⟩) := by
    rw [v3_apply]
    unfold row
    congr 1
    rw [ix3_inj]
    exact ⟨rfl, rfl, Fin.ext (by dsimp only; omega)⟩
  rw [e]
  unfold BlockRows.brow iblk
  rw [View.read_apply]
  show V m c main_v3 _ = V m c main_v3 _
  refine congrArg (V m c main_v3) (funext fun a => Fin.ext ?_)
  match a with
  | ⟨0, _⟩ => show win0_1.index t 0 * 256 + 1 * (r % 256) = 256 * t.val + r; rw [(index1 t).1]; omega
  | ⟨1, _⟩ => show win0_1.index t 1 * 8192 + 1 * (k % 8192) = k % 8192; rw [(index1 t).2]; omega

theorem scales_apply (c : Dev nD) (t : Fin cfg0.N) (h : Fin 16) (b : Fin 64) (o : Fin 256) :
    (iblk m c 0 t : S16x64x256.Idx → EReal) (ix3 h b o) = scol (m (c, Proc.devRef .tc main_arg2)) h.val o.val b.val := by
  rw [← v2_apply]
  unfold iblk
  rw [View.read_apply]
  show V m c main_v2 _ = V m c main_v2 _
  refine congrArg (V m c main_v2) (funext fun a => Fin.ext ?_)
  match a with
  | ⟨0, _⟩ => show win0_0.index t 0 * 16 + 1 * h.val = h.val; rw [(index0 t).1]; omega
  | ⟨1, _⟩ => show win0_0.index t 1 * 64 + 1 * b.val = b.val; rw [(index0 t).2.1]; omega
  | ⟨2, _⟩ => show win0_0.index t 2 * 256 + 1 * o.val = o.val; rw [(index0 t).2.2]; omega

theorem weights_apply (c : Dev nD) (t : Fin cfg0.N) (h : Fin 16) (d : Fin 8192) (o : Fin 256) :
    (iblk m c 2 t : S16x8192x256.Idx → EReal) (ix3 h d o) = wcol (m (c, Proc.devRef .tc main_arg1)) h.val o.val d.val := by
  rw [← arg1_apply]
  unfold iblk
  rw [View.read_apply]
  show V m c main_arg1 _ = V m c main_arg1 _
  refine congrArg (V m c main_arg1) (funext fun a => Fin.ext ?_)
  match a with
  | ⟨0, _⟩ => show win0_2.index t 0 * 16 + 1 * h.val = h.val; rw [(index2 t).1]; omega
  | ⟨1, _⟩ => show win0_2.index t 1 * 8192 + 1 * d.val = d.val; rw [(index2 t).2.1]; omega
  | ⟨2, _⟩ => show win0_2.index t 2 * 256 + 1 * o.val = o.val; rw [(index2 t).2.2]; omega

end Cert.KernelIdeal.Host
-- ==== Proof.HeadValue.lean ====
/- A HEAD'S RESULT AS A SUM: the product that the kernel makes chunk by chunk of 2048 columns, over all 8192. -/
module

public import proofs.«01_k».proof.Proof.Head
public import Idealize.ShloMosaic.Lib.Pointwise
public import Mathlib.Algebra.BigOperators.Fin

@[expose] public section

set_option maxRecDepth 16384

noncomputable section

namespace Cert.KernelIdeal.HeadValue

open Cert.KernelIdeal Cert.KernelIdeal.Gen
open Idealize.ShloMosaic

/-- One chunk. -/
theorem addChunk_apply (acc : FVec Ideal S256x256 .f32) (s : FVec Ideal S1x16x256 .bf16) (w : FVec Ideal S1x2048x256 .fp8e4m3)
    (x : FVec Ideal S256x2048 .bf16) (r o : Fin 256) :
    Head.addChunk acc s w x (ix2 r o) = acc (ix2 r o)
      + ∑ k : Fin 2048, x (ix2 r k) * (w (ix3 0 k o) * s (ix3 0 ⟨k.val / 128, by omega⟩ o)) := by
  unfold Head.addChunk Head.chunk
  pointwise

/-- The four chunks of a head. -/
theorem head_apply (s0 s1 s2 s3 : FVec Ideal S1x16x256 .bf16) (w0 w1 w2 w3 : FVec Ideal S1x2048x256 .fp8e4m3)
    (x0 x1 x2 x3 : FVec Ideal S256x2048 .bf16) (r o : Fin 256) :
    (Head.head (F := Ideal) s0 s1 s2 s3 w0 w1 w2 w3 x0 x1 x2 x3 (ix3 r 0 o) : Ideal .bf16)
      = ( Head.addChunk (Head.addChunk (Head.addChunk (Head.addChunk
          (broadcast S256x256 (Scalar.ofBits .f32 0x00000000#32 : Ideal .f32)) s0 w0 x0) s1 w1 x1) s2 w2 x2) s3 w3 x3 (ix2 r o) : EReal) := by
  unfold Head.head
  generalize Head.addChunk (Head.addChunk (Head.addChunk (Head.addChunk
          (broadcast S256x256 (Scalar.ofBits .f32 0x00000000#32 : Ideal .f32)) s0 w0 x0) s1 w1 x1) s2 w2 x2) s3 w3 x3 = G
  pointwise

theorem sum_chunks (f : ℕ → EReal) : ((((0 + ∑ k : Fin 2048, f k.val) + ∑ k : Fin 2048, f (2048 + k.val)) + ∑ k : Fin 2048, f (4096 + k.val))
    + ∑ k : Fin 2048, f (6144 + k.val)) = ∑ d : Fin 8192, f d.val := by
  rw [Fin.sum_univ_eq_sum_range (fun k => f k) 2048, Fin.sum_univ_eq_sum_range (fun k => f (2048 + k)) 2048,
    Fin.sum_univ_eq_sum_range (fun k => f (4096 + k)) 2048, Fin.sum_univ_eq_sum_range (fun k => f (6144 + k)) 2048,
    Fin.sum_univ_eq_sum_range (fun k => f k) 8192, show 8192 = 2048 + 2048 + 2048 + 2048 from rfl,
    Finset.sum_range_add, Finset.sum_range_add, Finset.sum_range_add, zero_add]

/-- One term of the sum. -/
def term (S : S16x64x256.Idx → EReal) (W : S16x8192x256.Idx → EReal) (D : S256x8192.Idx → EReal) (h : Fin 16) (r o : Fin 256) (d : ℕ) : EReal :=
  D (ix2 r ⟨d % 8192, by omega⟩) * (W (ix3 h ⟨d % 8192, by omega⟩ o) * S (ix3 h ⟨d / 128 % 64, by omega⟩ o))

theorem chunk_term (S : S16x64x256.Idx → EReal) (W : S16x8192x256.Idx → EReal) (D : S256x8192.Idx → EReal) (h : Fin 16) (r o : Fin 256) (n : ℕ)
    (k : Fin 2048) : Head.xCut (F := Ideal) D n (ix2 r k) * (Head.wCut (F := Ideal) W h.val n (ix3 0 k o)
      * Head.sCut (F := Ideal) S h.val n (ix3 0 ⟨k.val / 128, by omega⟩ o) : EReal) = term S W D h r o (2048 * n + k.val) := by
  have e1 : Head.xCut (F := Ideal) D n (ix2 r k) = D (ix2 r ⟨(2048 * n + k.val) % 8192, by omega⟩) := rfl
  have e2 : Head.wCut (F := Ideal) W h.val n (ix3 0 k o) = W (ix3 h ⟨(2048 * n + k.val) % 8192, by omega⟩ o) := by
    refine congrArg W (funext fun a => Fin.ext ?_)
    match a with
    | 0 => exact Nat.mod_eq_of_lt h.isLt
    | 1 => rfl
    | 2 => rfl
  have e3 : Head.sCut (F := Ideal) S h.val n (ix3 0 ⟨k.val / 128, by omega⟩ o) = S (ix3 h ⟨(2048 * n + k.val) / 128 % 64, by omega⟩ o) := by
    refine congrArg S (funext fun a => Fin.ext ?_)
    match a with
    | 0 => exact Nat.mod_eq_of_lt h.isLt
    | 1 => show (16 * n + k.val / 128) % 64 = (2048 * n + k.val) / 128 % 64; omega
    | 2 => rfl
  rw [e1, e2, e3]
  rfl

/-- An element of the results of a block of rows. -/
theorem out_apply (S : S16x64x256.Idx → EReal) (W : S16x8192x256.Idx → EReal) (D : S256x8192.Idx → EReal) (h : Fin 16) (r o : Fin 256) :
    Head.out (F := Ideal) S W D (ix3 r h o) = ∑ d : Fin 8192, term S W D h r o d.val := by
  have e : Head.out (F := Ideal) S W D (ix3 r h o) = Head.headAt (F := Ideal) S W D h.val (ix3 r 0 o) := rfl
  rw [e, Head.headAt, head_apply, addChunk_apply, addChunk_apply, addChunk_apply, addChunk_apply, ← sum_chunks]
  have hz : broadcast S256x256 (Scalar.ofBits .f32 0x00000000#32 : Ideal .f32) (ix2 r o) = (0 : EReal) := Ideal.ofBits_zero_f32
  rw [hz]
  refine congrArg₂ _ (congrArg₂ _ (congrArg₂ _ (congrArg₂ _ rfl ?_) ?_) ?_) ?_
  · refine Finset.sum_congr rfl fun k _ => (chunk_term S W D h r o 0 k).trans ?_
    rw [Nat.mul_zero, Nat.zero_add]
  · exact Finset.sum_congr rfl fun k _ => chunk_term S W D h r o 1 k
  · exact Finset.sum_congr rfl fun k _ => chunk_term S W D h r o 2 k
  · exact Finset.sum_congr rfl fun k _ => chunk_term S W D h r o 3 k

end Cert.KernelIdeal.HeadValue
-- ==== Proof.KernelValue.lean ====
/- WHAT THE KERNEL LEAVES in its three arrays of results: the functions of `Proof/Target.lean`, given that every two
   neighbouring rows' scales are in range. -/
module

public import proofs.«01_k».proof.Proof.KernelHost
public import proofs.«01_k».proof.Proof.HeadValue

@[expose] public section

set_option maxRecDepth 16384
set_option maxHeartbeats 1000000

noncomputable section

namespace Cert.KernelIdeal.Value

open Cert.KernelIdeal Cert.KernelIdeal.Gen Cert.KernelIdeal.Body Cert.KernelIdeal.Host Cert.Spec Cert.Target
open Idealize.ShloMosaic Idealize.ShloMosaic.TcCoe Idealize.SL.Sem

variable (m : (ℓ : Loc nD τ sig) → Buf (Elt Ideal) ℓ) (ρ : Dev nD → PrngReg)

/-- Every two neighbouring rows of the activations are in range. -/
def Good (c : Dev nD) : Prop := ∀ p g, p < 6144 → g < 128 →
  GoodRows (row (m (c, Proc.devRef .tc main_arg0)) (2 * p)) (row (m (c, Proc.devRef .tc main_arg0)) (2 * p + 1)) g

variable {m}

theorem allGood {c : Dev nD} (h : Good m c) (t : Fin cfg0.N) : BlockRows.AllGood (iblk m c 1 t : S256x8192.Idx → EReal) := by
  intro p g hp hg
  have ht := lt_points t
  rw [rows_apply m c t (2 * p) (by omega), rows_apply m c t (2 * p + 1) (by omega)]
  have := h (128 * t.val + p) g (by omega) hg
  rwa [show 2 * (128 * t.val + p) = 256 * t.val + 2 * p by omega, show 256 * t.val + 2 * p + 1 = 256 * t.val + (2 * p + 1) by omega] at this

theorem codes_at {c : Dev nD} (h : Good m c) (t : Fin cfg0.N) (r : Fin 256) (k : Fin 8192) :
    (codesBlk (F := Ideal) (iblk m c 1 t) (ix2 r k) : EReal) = code (row (m (c, Proc.devRef .tc main_arg0)) (256 * t.val + r.val)) k.val := by
  have e := BlockRows.codes_rows (allGood h t) (ix2 r k)
  rw [show ((ix2 r k : S256x8192.Idx) 0).val = r.val from rfl, rows_apply m c t r.val r.isLt] at e
  exact e

theorem deq_at {c : Dev nD} (h : Good m c) (t : Fin cfg0.N) (r : Fin 256) (k : Fin 8192) :
    (Trip.byBlocks (F := Ideal) (e := .bf16) (Group.deq Group.lanes) (iblk m c 1 t) (ix2 r k) : EReal)
      = deq (row (m (c, Proc.devRef .tc main_arg0)) (256 * t.val + r.val)) k.val := by
  have e := BlockRows.deq_rows (allGood h t) (ix2 r k)
  rw [show ((ix2 r k : S256x8192.Idx) 0).val = r.val from rfl, rows_apply m c t r.val r.isLt] at e
  exact e

theorem scales_at {c : Dev nD} (h : Good m c) (t : Fin cfg0.N) (r : Fin 256) (g : Fin 128) :
    (scalesBlk (F := Ideal) (iblk m c 1 t) (ix2 r g) : EReal) = scale (row (m (c, Proc.devRef .tc main_arg0)) (256 * t.val + r.val)) g.val := by
  have e := BlockRows.scales_rows (allGood h t) (ix2 r g)
  rw [show ((ix2 r g : S256x128.Idx) 0).val = r.val from rfl, rows_apply m c t r.val r.isLt] at e
  exact e

theorem out_at {c : Dev nD} (g : Good m c) (t : Fin cfg0.N) (r : Fin 256) (h : Fin 16) (o : Fin 256) :
    (outBlk (F := Ideal) (iblk m c 0 t) (iblk m c 1 t) (iblk m c 2 t) (ix3 r h o) : EReal)
      = prod (row (m (c, Proc.devRef .tc main_arg0)) (256 * t.val + r.val)) (wcol (m (c, Proc.devRef .tc main_arg1)) h.val o.val)
          (scol (m (c, Proc.devRef .tc main_arg2)) h.val o.val) := by
  refine (HeadValue.out_apply _ _ _ h r o).trans ?_
  unfold prod
  refine Finset.sum_congr rfl fun d _ => ?_
  have hd := d.isLt
  unfold HeadValue.term
  rw [show (⟨d.val % 8192, by omega⟩ : Fin 8192) = d from Fin.ext (by dsimp only; omega),
    show (⟨d.val / 128 % 64, by omega⟩ : Fin 64) = ⟨d.val / 128, by omega⟩ from Fin.ext (by dsimp only; omega)]
  refine congrArg₂ (· * ·) (deq_at g t r d) (congrArg₂ (· * ·) (weights_apply m c t h d o) (scales_apply m c t h ⟨d.val / 128, by omega⟩ o))

/-- The blocks of the codes written back. -/
theorem flushed_codes {c : Dev nD} (g : Good m c) (t : Fin cfg0.N) (_ : (cfg0.win 4).flush t = true) :
    (dats m 0 c).flushed 4 t = ((cfg0.win 4).blk t).view.read (Elt Ideal) (codesT (m (c, Proc.devRef .tc main_arg0))) := by
  show (cfg0.win 4).cut (grid0.coords t) ((dats m 0 c).after 4 t) = _
  rw [after0_4]
  funext j
  have ht := lt_points t
  have h0 : (j 0 : ℕ) < 256 := (j 0).isLt
  have h1 : (j 1 : ℕ) < 8192 := (j 1).isLt
  rw [View.read_apply]
  refine (congrArg _ (?_ : _ = (ix2 ⟨(j 0).val, h0⟩ ⟨(j 1).val, h1⟩ : S256x8192.Idx))).trans ((codes_at g t ⟨(j 0).val, h0⟩ ⟨(j 1).val, h1⟩).trans ?_)
  · funext a
    match a with
    | ⟨0, _⟩ => rfl
    | ⟨1, _⟩ => rfl
  · show _ = code (row _ (win0_4.index t 0 * 256 + 1 * (j 0).val)) (win0_4.index t 1 * 8192 + 1 * (j 1).val)
    rw [(index4 t).1, (index4 t).2, show t.val * 256 + 1 * (j 0).val = 256 * t.val + (j 0).val by omega, show 0 * 8192 + 1 * (j 1).val = (j 1).val by omega]

theorem flushed_scales {c : Dev nD} (g : Good m c) (t : Fin cfg0.N) (_ : (cfg0.win 5).flush t = true) :
    (dats m 0 c).flushed 5 t = ((cfg0.win 5).blk t).view.read (Elt Ideal) (scalesT (m (c, Proc.devRef .tc main_arg0))) := by
  show (cfg0.win 5).cut (grid0.coords t) ((dats m 0 c).after 5 t) = _
  rw [after0_5]
  funext j
  have ht := lt_points t
  have h0 : (j 0 : ℕ) < 256 := (j 0).isLt
  have h1 : (j 1 : ℕ) < 128 := (j 1).isLt
  rw [View.read_apply]
  refine (congrArg _ (?_ : _ = (ix2 ⟨(j 0).val, h0⟩ ⟨(j 1).val, h1⟩ : S256x128.Idx))).trans ((scales_at g t ⟨(j 0).val, h0⟩ ⟨(j 1).val, h1⟩).trans ?_)
  · funext a
    match a with
    | ⟨0, _⟩ => rfl
    | ⟨1, _⟩ => rfl
  · show _ = scale (row _ (win0_5.index t 0 * 256 + 1 * (j 0).val)) (win0_5.index t 1 * 128 + 1 * (j 1).val)
    rw [(index5 t).1, (index5 t).2, show t.val * 256 + 1 * (j 0).val = 256 * t.val + (j 0).val by omega, show 0 * 128 + 1 * (j 1).val = (j 1).val by omega]

theorem flushed_out {c : Dev nD} (g : Good m c) (t : Fin cfg0.N) (_ : (cfg0.win 3).flush t = true) :
    (dats m 0 c).flushed 3 t = ((cfg0.win 3).blk t).view.read (Elt Ideal)
      (outT (m (c, Proc.devRef .tc main_arg0)) (m (c, Proc.devRef .tc main_arg1)) (m (c, Proc.devRef .tc main_arg2))) := by
  show (cfg0.win 3).cut (grid0.coords t) ((dats m 0 c).after 3 t) = _
  rw [after0_3]
  funext j
  have ht := lt_points t
  have h0 : (j 0 : ℕ) < 256 := (j 0).isLt
  have h1 : (j 1 : ℕ) < 16 := (j 1).isLt
  have h2 : (j 2 : ℕ) < 256 := (j 2).isLt
  rw [View.read_apply]
  refine (congrArg _ (?_ : _ = (ix3 ⟨(j 0).val, h0⟩ ⟨(j 1).val, h1⟩ ⟨(j 2).val, h2⟩ : S256x16x256.Idx))).trans
    ((out_at g t ⟨(j 0).val, h0⟩ ⟨(j 1).val, h1⟩ ⟨(j 2).val, h2⟩).trans ?_)
  · funext a
    match a with
    | ⟨0, _⟩ => rfl
    | ⟨1, _⟩ => rfl
    | ⟨2, _⟩ => rfl
  · show _ = prod (row _ (win0_3.index t 0 * 256 + 1 * (j 0).val))
      (wcol _ (win0_3.index t 1 * 16 + 1 * (j 1).val) (win0_3.index t 2 * 256 + 1 * (j 2).val))
      (scol _ (win0_3.index t 1 * 16 + 1 * (j 1).val) (win0_3.index t 2 * 256 + 1 * (j 2).val))
    rw [(index3 t).1, (index3 t).2.1, (index3 t).2.2, show t.val * 256 + 1 * (j 0).val = 256 * t.val + (j 0).val by omega,
      show 0 * 16 + 1 * (j 1).val = (j 1).val by omega, show 0 * 256 + 1 * (j 2).val = (j 2).val by omega]

theorem size3 : ∀ t : Fin grid0.N, win0_3.xsize (grid0.coords t) 0 = 256 ∧ win0_3.xsize (grid0.coords t) 1 = 16 ∧ win0_3.xsize (grid0.coords t) 2 = 256 := by decide +kernel
theorem size4 : ∀ t : Fin grid0.N, win0_4.xsize (grid0.coords t) 0 = 256 ∧ win0_4.xsize (grid0.coords t) 1 = 8192 := by decide +kernel
theorem size5 : ∀ t : Fin grid0.N, win0_5.xsize (grid0.coords t) 0 = 256 ∧ win0_5.xsize (grid0.coords t) 1 = 128 := by decide +kernel

theorem final_codes {c : Dev nD} (g : Good m c) : (dats m 0 c).arrAt 4 cfg0.N = codesT (m (c, Proc.devRef .tc main_arg0)) :=
  (dats m 0 c).arrAt_eq_of_cover 4 _ (flushed_codes g) fun i => by
    have h0 : (i 0 : ℕ) < 12288 := (i 0).isLt
    have h1 : (i 1 : ℕ) < 8192 := (i 1).isLt
    have hN : (i 0 : ℕ) / 256 < grid0.N := by show _ < 48; omega
    refine ⟨⟨(i 0).val / 256, hN⟩, flush0_4 _, ?_⟩
    show i ∈ ((View.whole main_v4_1).slice (win0_4.rect ⟨(i 0).val / 256, hN⟩)).set
    rw [View.set_slice_whole, Rect.mem_set_unit]
    intro a
    have ix := index4 ⟨(i 0).val / 256, hN⟩
    have sz := size4 ⟨(i 0).val / 256, hN⟩
    match a with
    | ⟨0, _⟩ =>
      show win0_4.index ⟨(i 0).val / 256, hN⟩ 0 * 256 ≤ (i 0 : ℕ) ∧ (i 0 : ℕ) < win0_4.index ⟨(i 0).val / 256, hN⟩ 0 * 256 + win0_4.xsize (grid0.coords ⟨(i 0).val / 256, hN⟩) 0
      rw [ix.1, sz.1]; dsimp only; omega
    | ⟨1, _⟩ =>
      show win0_4.index ⟨(i 0).val / 256, hN⟩ 1 * 8192 ≤ (i 1 : ℕ) ∧ (i 1 : ℕ) < win0_4.index ⟨(i 0).val / 256, hN⟩ 1 * 8192 + win0_4.xsize (grid0.coords ⟨(i 0).val / 256, hN⟩) 1
      rw [ix.2, sz.2]; omega

theorem final_scales {c : Dev nD} (g : Good m c) : (dats m 0 c).arrAt 5 cfg0.N = scalesT (m (c, Proc.devRef .tc main_arg0)) :=
  (dats m 0 c).arrAt_eq_of_cover 5 _ (flushed_scales g) fun i => by
    have h0 : (i 0 : ℕ) < 12288 := (i 0).isLt
    have h1 : (i 1 : ℕ) < 128 := (i 1).isLt
    have hN : (i 0 : ℕ) / 256 < grid0.N := by show _ < 48; omega
    refine ⟨⟨(i 0).val / 256, hN⟩, flush0_5 _, ?_⟩
    show i ∈ ((View.whole main_v4_2).slice (win0_5.rect ⟨(i 0).val / 256, hN⟩)).set
    rw [View.set_slice_whole, Rect.mem_set_unit]
    intro a
    have ix := index5 ⟨(i 0).val / 256, hN⟩
    have sz := size5 ⟨(i 0).val / 256, hN⟩
    match a with
    | ⟨0, _⟩ =>
      show win0_5.index ⟨(i 0).val / 256, hN⟩ 0 * 256 ≤ (i 0 : ℕ) ∧ (i 0 : ℕ) < win0_5.index ⟨(i 0).val / 256, hN⟩ 0 * 256 + win0_5.xsize (grid0.coords ⟨(i 0).val / 256, hN⟩) 0
      rw [ix.1, sz.1]; dsimp only; omega
    | ⟨1, _⟩ =>
      show win0_5.index ⟨(i 0).val / 256, hN⟩ 1 * 128 ≤ (i 1 : ℕ) ∧ (i 1 : ℕ) < win0_5.index ⟨(i 0).val / 256, hN⟩ 1 * 128 + win0_5.xsize (grid0.coords ⟨(i 0).val / 256, hN⟩) 1
      rw [ix.2, sz.2]; omega

theorem final_out {c : Dev nD} (g : Good m c) : (dats m 0 c).arrAt 3 cfg0.N
    = outT (m (c, Proc.devRef .tc main_arg0)) (m (c, Proc.devRef .tc main_arg1)) (m (c, Proc.devRef .tc main_arg2)) :=
  (dats m 0 c).arrAt_eq_of_cover 3 _ (flushed_out g) fun i => by
    have h0 : (i 0 : ℕ) < 12288 := (i 0).isLt
    have h1 : (i 1 : ℕ) < 16 := (i 1).isLt
    have h2 : (i 2 : ℕ) < 256 := (i 2).isLt
    have hN : (i 0 : ℕ) / 256 < grid0.N := by show _ < 48; omega
    refine ⟨⟨(i 0).val / 256, hN⟩, flush0_3 _, ?_⟩
    show i ∈ ((View.whole main_v4_0).slice (win0_3.rect ⟨(i 0).val / 256, hN⟩)).set
    rw [View.set_slice_whole, Rect.mem_set_unit]
    intro a
    have ix := index3 ⟨(i 0).val / 256, hN⟩
    have sz := size3 ⟨(i 0).val / 256, hN⟩
    match a with
    | ⟨0, _⟩ =>
      show win0_3.index ⟨(i 0).val / 256, hN⟩ 0 * 256 ≤ (i 0 : ℕ) ∧ (i 0 : ℕ) < win0_3.index ⟨(i 0).val / 256, hN⟩ 0 * 256 + win0_3.xsize (grid0.coords ⟨(i 0).val / 256, hN⟩) 0
      rw [ix.1, sz.1]; dsimp only; omega
    | ⟨1, _⟩ =>
      show win0_3.index ⟨(i 0).val / 256, hN⟩ 1 * 16 ≤ (i 1 : ℕ) ∧ (i 1 : ℕ) < win0_3.index ⟨(i 0).val / 256, hN⟩ 1 * 16 + win0_3.xsize (grid0.coords ⟨(i 0).val / 256, hN⟩) 1
      rw [ix.2.1, sz.2.1]; omega
    | ⟨2, _⟩ =>
      show win0_3.index ⟨(i 0).val / 256, hN⟩ 2 * 256 ≤ (i 2 : ℕ) ∧ (i 2 : ℕ) < win0_3.index ⟨(i 0).val / 256, hN⟩ 2 * 256 + win0_3.xsize (grid0.coords ⟨(i 0).val / 256, hN⟩) 2
      rw [ix.2.2, sz.2.2]; omega

/-- The kernel's run, read. -/
theorem run (g : ∀ c, Good m c) : θ_run defs (onTc (τ := τ) (main (F := Ideal))) ⟨m, fun _ => 0, ρ⟩ fun r => ∀ c : Dev nD,
      r.2.mem ((c : Thread nD τ).loc main_v4_0)
        = outT (m (c, Proc.devRef .tc main_arg0)) (m (c, Proc.devRef .tc main_arg1)) (m (c, Proc.devRef .tc main_arg2))
      ∧ r.2.mem ((c : Thread nD τ).loc main_v4_1) = codesT (m (c, Proc.devRef .tc main_arg0))
      ∧ r.2.mem ((c : Thread nD τ).loc main_v4_2) = scalesT (m (c, Proc.devRef .tc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (final_out (g c)), ((h c).1 4).trans (final_codes (g c)), ((h c).1 5).trans (final_scales (g c)),
    ((h c).2 main_arg0 (Pipeline.mem_restRefs_of main_arg0 (by decide) (by decide))).trans (V_main_arg0 m c),
    (((h c).1 2).trans ((dats m 0 c).arrAt_in 2 rfl _)).trans ((A_eq m c 2).trans (V_main_arg1 m c)),
    ((h c).2 main_arg2 (Pipeline.mem_restRefs_of main_arg2 (by decide) (by decide))).trans (V_main_arg2 m c)⟩)
    (run_main m ρ)

end Cert.KernelIdeal.Value
-- ==== Proof.RefScale.lean ====
/- THE REFERENCE'S SCALES, index by index: the groups' largest magnitudes, the powers of two, the smallest that fits. -/
module

public import proofs.«01_k».proof.Proof.Target
public import proofs.«01_k».proof.Proof.Gen.ReferenceIdeal.Frame
public import Idealize.ShloMosaic.Lib.StableHlo.ReadAt

@[expose] public section

set_option maxRecDepth 16384
set_option maxHeartbeats 2000000

noncomputable section

namespace Cert.ReferenceIdeal.Host

open Cert.ReferenceIdeal Cert.ReferenceIdeal.Gen Cert.Scale Cert.Spec Cert.Target
open Idealize.ShloMosaic Idealize.ShloMosaic.TcCoe

variable (m : (ℓ : Loc nD τ sig) → Buf (Elt Ideal) ℓ)

theorem top_eq : Ideal.ofBits .f32 0x7F800000#32 = ⊤ := by simp [Ideal.ofBits, Ideal.ieee]

theorem limit_eq : Ideal.ofBits .f32 0x43E00000#32 = 448 := by
  have h : Ideal.ofBits .f32 0x43E00000#32 = ((448 : ℝ) : EReal) := by
    simp [Ideal.ofBits, Ideal.ieee, -EReal.coe_mul, -EReal.coe_pow]; norm_num
  rw [h]; rfl

theorem limit_bf16 : Ideal.ofBits .f32 0x43E00000#32 = Ideal.ofBits .bf16 0x43E0#16 := by
  simp [Ideal.ofBits, Ideal.ieee, -EReal.coe_mul, -EReal.coe_pow]; norm_num

theorem neg_limit_bf16 : Ideal.ofBits .f32 0xC3E00000#32 = Ideal.ofBits .bf16 0xC3E0#16 := by
  simp [Ideal.ofBits, Ideal.ieee, -EReal.coe_mul, -EReal.coe_pow]; norm_num

/-- The groups' largest magnitudes. -/
theorem v3_apply (c : Dev nD) (r : Fin 12288) (g : Fin 128) :
    V m c main_v3 (ix2 r g) = peak (row (m (c, Proc.devRef .tc main_arg0)) r.val) g.val := by
  unfold V
  simp only [List.flatten_cons, List.flatten_nil, List.cons_append, List.nil_append, List.append_nil]
  after_reads_at
  have hbot : Ideal.ofBits .f32 0xFF800000#32 = ⊥ := by simp [Ideal.ofBits, Ideal.ieee]
  rw [hbot]
  unfold peak
  congr 1
  funext x
  have hr := r.isLt
  have hg := g.isLt
  have hx := x.isLt
  have e : m (c, Proc.devRef .tc main_arg0) (ix3 ⟨r.val / 1536, by omega⟩ ⟨r.val % 1536, by omega⟩ ⟨g.val * 64 + x.val, by omega⟩)
      = row (m (c, Proc.devRef .tc main_arg0)) r.val (64 * g.val + x.val) := by
    unfold row
    congr 1
    rw [ix3_inj]
    exact ⟨Fin.ext (by dsimp only; omega), Fin.ext rfl, Fin.ext (by dsimp only; omega)⟩
  rw [e]
  rfl

/-- The powers of two. -/
theorem v9_apply (c : Dev nD) (j : Fin 247) : V m c main_v9 (ix1 j) = two j.val := by
  unfold V
  simp only [List.flatten_cons, List.flatten_nil, List.cons_append, List.nil_append, List.append_nil]
  after_reads_at
  have h2 : Ideal.ofBits .f32 0x40000000#32 = ((2 : ℝ) : EReal) := by
    simp [Ideal.ofBits, Ideal.ieee, -EReal.coe_mul, -EReal.coe_pow]; norm_num
  have hj : (IntOp.addi 4294967170#32 (BitVec.ofNat 32 j.val)).toInt = (j.val : ℤ) - 126 := by
    have hall : ∀ j : Fin 247, (4294967170#32 + BitVec.ofNat 32 j.val).toInt = (j.val : ℤ) - 126 := by decide +kernel
    exact hall j
  have hs : (FloatOps.sitofp (F := Ideal) .f32 (IntOp.addi 4294967170#32 (BitVec.ofNat 32 j.val)) : EReal)
      = ((((j.val : ℤ) - 126 : ℤ) : ℝ) : EReal) := by
    show (((IntOp.addi 4294967170#32 (BitVec.ofNat 32 j.val)).toInt : ℝ) : EReal) = _
    rw [hj]
  rw [h2]
  refine (congrArg (Ideal.pow _) hs).trans ?_
  show ((Real.rpow 2 _ : ℝ) : EReal) = _
  unfold two
  congr 1
  exact Real.rpow_intCast 2 _

/-- The scales from the largest magnitudes and the powers. -/
def scaleOf (P : FVec Ideal S12288x128 .f32) (T : FVec Ideal S247 .f32) : FVec Ideal S12288x128 .f32 :=
  select (cmpf .oeq P (broadcastInDim S12288x128 ![] bcast_S_S12288x128 (constant S_ .f32 0x00000000#32)))
    (broadcastInDim S12288x128 ![] bcast_S_S12288x128 (constant S_ .f32 0x3F800000#32))
    (Host.reduce FloatOps.minimumf
      (select
        (cmpf .ogt
          (broadcastInDim S12288x128x247 ![0, 1, 2] bcast_S1x1x247_S12288x128x247_0_1_2
            (broadcastInDim S1x1x247 ![2] bcast_S247_S1x1x247_2
              (mulf T (broadcastInDim S247 ![] bcast_S_S247 (constant S_ .f32 0x43E00000#32)))))
          (broadcastInDim S12288x128x247 ![0, 1, 2] bcast_S12288x128x1_S12288x128x247_0_1_2
            (broadcastInDim S12288x128x1 ![0, 1] bcast_S12288x128_S12288x128x1_0_1 P)))
        (broadcastInDim S12288x128x247 ![2] bcast_S247_S12288x128x247_2 T)
        (broadcastInDim S12288x128x247 ![] bcast_S_S12288x128x247 (constant S_ .f32 0x7F800000#32)))
      (constant S_ .f32 0x7F800000#32) reducesTo_S12288x128x247_S12288x128_d2 h_S_)

theorem v21_eq (c : Dev nD) : V m c main_v21 = scaleOf (V m c main_v3) (V m c main_v9) := by
  unfold V scaleOf
  simp only [List.flatten_cons, List.flatten_nil, List.cons_append, List.nil_append, List.append_nil]
  after_reads_simp
  simp -implicitDefEqProofs only [StableHlo.TRef.toBuf, StableHlo.TRef.ofBuf, cast_cast, cast_eq, id]
  try rfl

theorem scaleOf_apply (P : FVec Ideal S12288x128 .f32) (T : FVec Ideal S247 .f32) (r : Fin 12288) (g : Fin 128) (p : EReal)
    (hp : P (ix2 r g) = p) (ht : ∀ j : Fin 247, T (ix1 j) = two j.val) : scaleOf P T (ix2 r g) = scl p := by
  unfold scaleOf
  pointwise
  rw [hp, top_eq, limit_eq]
  simp only [ht]
  rfl

/-- The scales. -/
theorem v21_apply (c : Dev nD) (r : Fin 12288) (g : Fin 128) :
    V m c main_v21 (ix2 r g) = scale (row (m (c, Proc.devRef .tc main_arg0)) r.val) g.val := by
  rw [v21_eq]
  exact scaleOf_apply _ _ r g _ (v3_apply m c r g) (v9_apply m c)

end Cert.ReferenceIdeal.Host
-- ==== Proof.RefHost.lean ====
/- WHAT THE REFERENCE'S HOST OPERATIONS COMPUTE: the weights and the multipliers that
   its product takes, index by index. -/
module

public import proofs.«01_k».proof.Proof.RefScale
public import Idealize.ShloMosaic.Lib.StableHlo.ReadAt

@[expose] public section

set_option maxRecDepth 16384
set_option maxHeartbeats 2000000

noncomputable section

namespace Cert.ReferenceIdeal.Host

open Cert.ReferenceIdeal Cert.ReferenceIdeal.Gen Cert.Scale Cert.Spec Cert.Target
open Idealize.ShloMosaic Idealize.ShloMosaic.TcCoe

variable (m : (ℓ : Loc nD τ sig) → Buf (Elt Ideal) ℓ)

/-- The multipliers of the codes. -/
theorem v31_apply (c : Dev nD) (r : Fin 12288) (k : Fin 8192) :
    V m c main_v31 (ix2 r k) = scale (row (m (c, Proc.devRef .tc main_arg0)) r.val) (k.val / 64) := by
  have e : V m c main_v31 = (shapeCast S12288x8192 (broadcastInDim S12288x128x64 ![0, 1] bcast_S12288x128_S12288x128x64_0_1
      (truncf .bf16 (V m c main_v21 : FVec Ideal S12288x128 .f32) bitsLt_bf16_f32 : FVec Ideal S12288x128 .bf16))
      shapeCasts_S12288x128x64_S12288x8192 : FVec Ideal S12288x8192 .bf16) := by
    unfold V
    simp only [List.flatten_cons, List.flatten_nil, List.cons_append, List.nil_append, List.append_nil]
    after_reads_simp
    simp -implicitDefEqProofs only [StableHlo.TRef.toBuf, StableHlo.TRef.ofBuf, cast_cast, cast_eq, id]
    try rfl
  rw [e]
  have h2 := v21_apply m c r
  revert h2
  generalize V m c main_v21 = S
  intro h2
  pointwise
  exact h2 ⟨k.val / 64, by have := k.isLt; omega⟩

/-- The weights, one column for each head and output. -/
theorem v38_apply (c : Dev nD) (d : Fin 8192) (q : Fin 4096) :
    V m c main_v38 (ix2 d q) = wcol (m (c, Proc.devRef .tc main_arg1)) (q.val / 256) (q.val % 256) d.val := by
  unfold V
  simp only [List.flatten_cons, List.flatten_nil, List.cons_append, List.nil_append, List.append_nil]
  after_reads_at
  have hd := d.isLt
  have hq := q.isLt
  unfold wcol
  congr 1
  rw [ix3_inj]
  exact ⟨Fin.ext (by dsimp only; omega), Fin.ext (by dsimp only; omega), Fin.ext (by dsimp only; omega)⟩

/-- The multipliers of the weights. -/
theorem v40_apply (c : Dev nD) (d : Fin 8192) (q : Fin 4096) :
    V m c main_v40 (ix2 d q) = scol (m (c, Proc.devRef .tc main_arg2)) (q.val / 256) (q.val % 256) (d.val / 128) := by
  unfold V
  simp only [List.flatten_cons, List.flatten_nil, List.cons_append, List.nil_append, List.append_nil]
  after_reads_at
  have hd := d.isLt
  have hq := q.isLt
  unfold scol
  congr 1
  rw [ix3_inj]
  exact ⟨Fin.ext (by dsimp only; omega), Fin.ext (by dsimp only; omega), Fin.ext (by dsimp only; omega)⟩

end Cert.ReferenceIdeal.Host
-- ==== Proof.RefClip.lean ====
/- WHAT THE REFERENCE'S HOST OPERATIONS COMPUTE: the clipped quotients of the activations, index by index. -/
module

public import proofs.«01_k».proof.Proof.RefScale
public import Idealize.ShloMosaic.Lib.StableHlo.ReadAt

@[expose] public section

set_option maxRecDepth 16384
set_option maxHeartbeats 2000000

noncomputable section

namespace Cert.ReferenceIdeal.Host

open Cert.ReferenceIdeal Cert.ReferenceIdeal.Gen Cert.Scale Cert.Spec Cert.Target
open Idealize.ShloMosaic Idealize.ShloMosaic.TcCoe

variable (m : (ℓ : Loc nD τ sig) → Buf (Elt Ideal) ℓ)

/-- The clipped quotients from the activations and the scales. -/
def clipOf (X : FVec Ideal S12288x128x64 .f32) (S : FVec Ideal S12288x128 .f32) : FVec Ideal S12288x8192 .f32 :=
  shapeCast S12288x8192
    (minimumf (broadcastInDim S12288x128x64 ![] bcast_S_S12288x128x64 (constant S_ .f32 0x43E00000#32))
      (maximumf (broadcastInDim S12288x128x64 ![] bcast_S_S12288x128x64 (constant S_ .f32 0xC3E00000#32))
        (mulf X
          (broadcastInDim S12288x128x64 ![0, 1, 2] bcast_S12288x128x1_S12288x128x64_0_1_2
            (broadcastInDim S12288x128x1 ![0, 1] bcast_S12288x128_S12288x128x1_0_1
              (Host.divf (broadcastInDim S12288x128 ![] bcast_S_S12288x128 (constant S_ .f32 0x3F800000#32)) S))))))
    shapeCasts_S12288x128x64_S12288x8192

theorem v28_eq (c : Dev nD) : V m c main_v28 = clipOf (V m c main_v1) (V m c main_v21) := by
  unfold V clipOf
  simp only [List.flatten_cons, List.flatten_nil, List.cons_append, List.nil_append, List.append_nil]
  after_reads_simp
  simp -implicitDefEqProofs only [StableHlo.TRef.toBuf, StableHlo.TRef.ofBuf, cast_cast, cast_eq, id]
  try rfl

theorem v1_apply (c : Dev nD) (r : Fin 12288) (g : Fin 128) (i : Fin 64) :
    V m c main_v1 (ix3 r g i) = row (m (c, Proc.devRef .tc main_arg0)) r.val (64 * g.val + i.val) := by
  unfold V
  simp only [List.flatten_cons, List.flatten_nil, List.cons_append, List.nil_append, List.append_nil]
  after_reads_at
  have hr := r.isLt
  have hg := g.isLt
  have hi := i.isLt
  unfold row
  congr 1
  rw [ix3_inj]
  exact ⟨Fin.ext (by dsimp only; omega), Fin.ext rfl, Fin.ext (by dsimp only; omega)⟩

theorem clipOf_apply (X : FVec Ideal S12288x128x64 .f32) (S : FVec Ideal S12288x128 .f32) (r : Fin 12288) (k : Fin 8192) (f : ℕ → EReal)
    (h1 : X (ix3 r ⟨k.val / 64, by omega⟩ ⟨k.val % 64, by omega⟩) = f k.val)
    (h2 : S (ix2 r ⟨k.val / 64, by omega⟩) = scale f (k.val / 64)) : clipOf X S (ix2 r k) = code f k.val := by
  unfold clipOf
  pointwise
  rw [limit_bf16, neg_limit_bf16, h1, h2]
  rfl

/-- What the reference rounds to codes. -/
theorem v28_apply (c : Dev nD) (r : Fin 12288) (k : Fin 8192) :
    V m c main_v28 (ix2 r k) = code (row (m (c, Proc.devRef .tc main_arg0)) r.val) k.val := by
  rw [v28_eq]
  have hk := k.isLt
  refine clipOf_apply _ _ r k _ ((v1_apply m c r ⟨k.val / 64, by omega⟩ ⟨k.val % 64, by omega⟩).trans ?_) (v21_apply m c r ⟨k.val / 64, by omega⟩)
  exact congrArg _ (Nat.div_add_mod k.val 64)

end Cert.ReferenceIdeal.Host
-- ==== Proof.RefValue.lean ====
/- WHAT THE REFERENCE LEAVES in its three arrays of results: the functions of `Proof/Target.lean`. -/
module

public import proofs.«01_k».proof.Proof.RefHost
public import proofs.«01_k».proof.Proof.RefClip
public import proofs.«01_k».proof.Proof.Gen.ReferenceIdeal.Value
public import Idealize.ShloMosaic.Lib.Pointwise

@[expose] public section

set_option maxRecDepth 16384
set_option maxHeartbeats 1000000

noncomputable section

namespace Cert.ReferenceIdeal.RefValue

open Cert.ReferenceIdeal Cert.ReferenceIdeal.Gen Cert.ReferenceIdeal.Value Cert.ReferenceIdeal.Host Cert.Spec Cert.Target
open Idealize.ShloMosaic Idealize.ShloMosaic.TcCoe Idealize.SL.Sem

/-- The product, over variables: an element sums over the 8192 columns. -/
theorem pay2_apply (A : FVec Ideal S12288x8192 .f32) (B : FVec Ideal S12288x8192 .bf16) (C : FVec Ideal S8192x4096 .fp8e4m3)
    (D : FVec Ideal S8192x4096 .bf16) (r : Fin 12288) (h : Fin 16) (o : Fin 256) :
    (k0_pay2 (F := Ideal) A B C D (ix3 r h o) : EReal)
      = ∑ d : Fin 8192, A (ix2 r d) * B (ix2 r d) * (C (ix2 d ⟨h.val * 256 + o.val, by omega⟩) * D (ix2 d ⟨h.val * 256 + o.val, by omega⟩)) := by
  unfold k0_pay2 k0_pay1
  pointwise

theorem hz2 : (![0, 0] : Fin 2 → ℕ) = fun _ => 0 := funext fun a => by fin_cases a <;> rfl
theorem hz3 : (![0, 0, 0] : Fin 3 → ℕ) = fun _ => 0 := funext fun a => by fin_cases a <;> rfl

theorem out4_eq (A : FVec Ideal S12288x8192 .f32) (B : FVec Ideal S12288x8192 .bf16) (C : FVec Ideal S8192x4096 .fp8e4m3)
    (D : FVec Ideal S8192x4096 .bf16) : out0_4 (F := Ideal) A B C D = k0_pay2 (F := Ideal) A B C D := by
  unfold out0_4
  rw [View.canon_unit_zero hz3, View.ld_unit_zero hz2, View.ld_unit_zero hz2, View.ld_unit_zero hz2, View.ld_unit_zero hz2]

theorem out5_apply (A : FVec Ideal S12288x8192 .f32) (B : FVec Ideal S12288x8192 .bf16) (C : FVec Ideal S8192x4096 .fp8e4m3)
    (D : FVec Ideal S8192x4096 .bf16) (r : Fin 12288) (k : Fin 8192) : (out0_5 (F := Ideal) A B C D (ix2 r k) : EReal) = A (ix2 r k) := by
  unfold out0_5
  rw [View.canon_unit_zero hz2, View.ld_unit_zero hz2]
  unfold k0_pay1
  pointwise

variable (m : (ℓ : Loc nD τ sig) → Buf (Elt Ideal) ℓ) (ρ : Dev nD → PrngReg)

theorem index0 : ∀ t : Fin grid0.N, win0_0.index t 0 = 0 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 ∧ win0_4.index t 2 = 0 := by decide +kernel
theorem index5 : ∀ t : Fin grid0.N, win0_5.index t 0 = 0 ∧ win0_5.index t 1 = 0 := by decide +kernel
theorem size4 : ∀ t : Fin grid0.N, win0_4.xsize (grid0.coords t) 0 = 12288 ∧ win0_4.xsize (grid0.coords t) 1 = 16 ∧ win0_4.xsize (grid0.coords t) 2 = 256 := by decide +kernel
theorem size5 : ∀ t : Fin grid0.N, win0_5.xsize (grid0.coords t) 0 = 12288 ∧ win0_5.xsize (grid0.coords t) 1 = 8192 := by decide +kernel
theorem block0_apply (G : S12288x8192.Idx → EReal) (t : Fin cfg0.N) (r : Fin 12288) (k : Fin 8192) :
    ((cfg0.win 0).blk t).view.read (Elt Ideal) G (ix2 r k) = G (ix2 r k) := by
  rw [View.read_apply]
  refine congrArg G (funext fun a => Fin.ext ?_)
  match a with
  | ⟨0, _⟩ => show win0_0.index t 0 * 12288 + 1 * r.val = r.val; rw [(index0 t).1]; omega
  | ⟨1, _⟩ => show win0_0.index t 1 * 8192 + 1 * k.val = k.val; rw [(index0 t).2]; omega

theorem read0 (c : Dev nD) (t : Fin cfg0.N) (r : Fin 12288) (k : Fin 8192) :
    (iblk m c 0 t : S12288x8192.Idx → EReal) (ix2 r k) = code (row (m (c, Proc.devRef .tc main_arg0)) r.val) k.val := by
  unfold iblk
  exact (block0_apply (V m c main_v28) t r k).trans (v28_apply m c r k)

theorem block1_apply (G : S12288x8192.Idx → EReal) (t : Fin cfg0.N) (r : Fin 12288) (k : Fin 8192) :
    ((cfg0.win 1).blk t).view.read (Elt Ideal) G (ix2 r k) = G (ix2 r k) := by
  rw [View.read_apply]
  refine congrArg G (funext fun a => Fin.ext ?_)
  match a with
  | ⟨0, _⟩ => show win0_1.index t 0 * 12288 + 1 * r.val = r.val; rw [(index1 t).1]; omega
  | ⟨1, _⟩ => show win0_1.index t 1 * 8192 + 1 * k.val = k.val; rw [(index1 t).2]; omega

theorem read1 (c : Dev nD) (t : Fin cfg0.N) (r : Fin 12288) (k : Fin 8192) :
    (iblk m c 1 t : S12288x8192.Idx → EReal) (ix2 r k) = scale (row (m (c, Proc.devRef .tc main_arg0)) r.val) (k.val / 64) := by
  unfold iblk
  exact (block1_apply (V m c main_v31) t r k).trans (v31_apply m c r k)

theorem block2_apply (G : S8192x4096.Idx → EReal) (t : Fin cfg0.N) (d : Fin 8192) (q : Fin 4096) :
    ((cfg0.win 2).blk t).view.read (Elt Ideal) G (ix2 d q) = G (ix2 d q) := by
  rw [View.read_apply]
  refine congrArg G (funext fun a => Fin.ext ?_)
  match a with
  | ⟨0, _⟩ => show win0_2.index t 0 * 8192 + 1 * d.val = d.val; rw [(index2 t).1]; omega
  | ⟨1, _⟩ => show win0_2.index t 1 * 4096 + 1 * q.val = q.val; rw [(index2 t).2]; omega

theorem read2 (c : Dev nD) (t : Fin cfg0.N) (d : Fin 8192) (q : Fin 4096) :
    (iblk m c 2 t : S8192x4096.Idx → EReal) (ix2 d q) = wcol (m (c, Proc.devRef .tc main_arg1)) (q.val / 256) (q.val % 256) d.val := by
  unfold iblk
  exact (block2_apply (V m c main_v38) t d q).trans (v38_apply m c d q)

theorem block3_apply (G : S8192x4096.Idx → EReal) (t : Fin cfg0.N) (d : Fin 8192) (q : Fin 4096) :
    ((cfg0.win 3).blk t).view.read (Elt Ideal) G (ix2 d q) = G (ix2 d q) := by
  rw [View.read_apply]
  refine congrArg G (funext fun a => Fin.ext ?_)
  match a with
  | ⟨0, _⟩ => show win0_3.index t 0 * 8192 + 1 * d.val = d.val; rw [(index3 t).1]; omega
  | ⟨1, _⟩ => show win0_3.index t 1 * 4096 + 1 * q.val = q.val; rw [(index3 t).2]; omega

theorem read3 (c : Dev nD) (t : Fin cfg0.N) (d : Fin 8192) (q : Fin 4096) :
    (iblk m c 3 t : S8192x4096.Idx → EReal) (ix2 d q) = scol (m (c, Proc.devRef .tc main_arg2)) (q.val / 256) (q.val % 256) (d.val / 128) := by
  unfold iblk
  exact (block3_apply (V m c main_v40) t d q).trans (v40_apply m c d q)

theorem out_at (c : Dev nD) (t : Fin cfg0.N) (r : Fin 12288) (h : Fin 16) (o : Fin 256) :
    (out0_4 (F := Ideal) (iblk m c 0 t) (iblk m c 1 t) (iblk m c 2 t) (iblk m c 3 t) (ix3 r h o) : EReal)
      = prod (row (m (c, Proc.devRef .tc main_arg0)) r.val) (wcol (m (c, Proc.devRef .tc main_arg1)) h.val o.val)
          (scol (m (c, Proc.devRef .tc main_arg2)) h.val o.val) := by
  refine (congrFun (out4_eq _ _ _ _) _).trans ((pay2_apply _ _ _ _ r h o).trans ?_)
  unfold prod deq
  refine Finset.sum_congr rfl fun d _ => ?_
  have ho := o.isLt
  have e2 := read2 m c t d ⟨h.val * 256 + o.val, by omega⟩
  have e3 := read3 m c t d ⟨h.val * 256 + o.val, by omega⟩
  dsimp only at e2 e3
  rw [show (h.val * 256 + o.val) / 256 = h.val by omega, show (h.val * 256 + o.val) % 256 = o.val by omega] at e2 e3
  exact congrArg₂ (· * ·) (congrArg₂ (· * ·) (read0 m c t r d) (read1 m c t r d)) (congrArg₂ (· * ·) e2 e3)

theorem flushed_out (c : Dev nD) (t : Fin cfg0.N) (_ : (cfg0.win 4).flush t = true) :
    (dats m 0 c).flushed 4 t = ((cfg0.win 4).blk t).view.read (Elt Ideal)
      (outT (m (c, Proc.devRef .tc main_arg0)) (m (c, Proc.devRef .tc main_arg1)) (m (c, Proc.devRef .tc main_arg2))) := by
  rw [flushed4]
  funext j
  have h0 : (j 0 : ℕ) < 12288 := (j 0).isLt
  have h1 : (j 1 : ℕ) < 16 := (j 1).isLt
  have h2 : (j 2 : ℕ) < 256 := (j 2).isLt
  rw [View.read_apply]
  refine (congrArg _ (?_ : _ = (ix3 ⟨(j 0).val, h0⟩ ⟨(j 1).val, h1⟩ ⟨(j 2).val, h2⟩ : S12288x16x256.Idx))).trans
    ((out_at m c t ⟨(j 0).val, h0⟩ ⟨(j 1).val, h1⟩ ⟨(j 2).val, h2⟩).trans ?_)
  · funext a
    match a with
    | ⟨0, _⟩ => rfl
    | ⟨1, _⟩ => rfl
    | ⟨2, _⟩ => rfl
  · show _ = prod (row _ (win0_4.index t 0 * 12288 + 1 * (j 0).val))
      (wcol _ (win0_4.index t 1 * 16 + 1 * (j 1).val) (win0_4.index t 2 * 256 + 1 * (j 2).val))
      (scol _ (win0_4.index t 1 * 16 + 1 * (j 1).val) (win0_4.index t 2 * 256 + 1 * (j 2).val))
    rw [(index4 t).1, (index4 t).2.1, (index4 t).2.2, show 0 * 12288 + 1 * (j 0).val = (j 0).val by omega,
      show 0 * 16 + 1 * (j 1).val = (j 1).val by omega, show 0 * 256 + 1 * (j 2).val = (j 2).val by omega]

theorem flushed_codes (c : Dev nD) (t : Fin cfg0.N) (_ : (cfg0.win 5).flush t = true) :
    (dats m 0 c).flushed 5 t = ((cfg0.win 5).blk t).view.read (Elt Ideal) (codesT (m (c, Proc.devRef .tc main_arg0))) := by
  rw [flushed5]
  funext j
  have h0 : (j 0 : ℕ) < 12288 := (j 0).isLt
  have h1 : (j 1 : ℕ) < 8192 := (j 1).isLt
  rw [View.read_apply]
  refine (congrArg _ (?_ : _ = (ix2 ⟨(j 0).val, h0⟩ ⟨(j 1).val, h1⟩ : S12288x8192.Idx))).trans
    (((out5_apply _ _ _ _ _ _).trans (read0 m c t ⟨(j 0).val, h0⟩ ⟨(j 1).val, h1⟩)).trans ?_)
  · funext a
    match a with
    | ⟨0, _⟩ => rfl
    | ⟨1, _⟩ => rfl
  · show _ = code (row _ (win0_5.index t 0 * 12288 + 1 * (j 0).val)) (win0_5.index t 1 * 8192 + 1 * (j 1).val)
    rw [(index5 t).1, (index5 t).2, show 0 * 12288 + 1 * (j 0).val = (j 0).val by omega, show 0 * 8192 + 1 * (j 1).val = (j 1).val by omega]

theorem final_out (c : Dev nD) : (dats m 0 c).arrAt 4 cfg0.N
    = outT (m (c, Proc.devRef .tc main_arg0)) (m (c, Proc.devRef .tc main_arg1)) (m (c, Proc.devRef .tc main_arg2)) :=
  (dats m 0 c).arrAt_eq_of_cover 4 _ (flushed_out m c) fun i => by
    have h0 : (i 0 : ℕ) < 12288 := (i 0).isLt
    have h1 : (i 1 : ℕ) < 16 := (i 1).isLt
    have h2 : (i 2 : ℕ) < 256 := (i 2).isLt
    have hN : 0 < grid0.N := by show 0 < 1; omega
    refine ⟨⟨0, hN⟩, flush0_4 _, ?_⟩
    show i ∈ ((View.whole main_v41_0).slice (win0_4.rect ⟨0, hN⟩)).set
    rw [View.set_slice_whole, Rect.mem_set_unit]
    intro a
    have ix := index4 ⟨0, hN⟩
    have sz := size4 ⟨0, hN⟩
    match a with
    | ⟨0, _⟩ =>
      show win0_4.index ⟨0, hN⟩ 0 * 12288 ≤ (i 0 : ℕ) ∧ (i 0 : ℕ) < win0_4.index ⟨0, hN⟩ 0 * 12288 + win0_4.xsize (grid0.coords ⟨0, hN⟩) 0
      rw [ix.1, sz.1]; omega
    | ⟨1, _⟩ =>
      show win0_4.index ⟨0, hN⟩ 1 * 16 ≤ (i 1 : ℕ) ∧ (i 1 : ℕ) < win0_4.index ⟨0, hN⟩ 1 * 16 + win0_4.xsize (grid0.coords ⟨0, hN⟩) 1
      rw [ix.2.1, sz.2.1]; omega
    | ⟨2, _⟩ =>
      show win0_4.index ⟨0, hN⟩ 2 * 256 ≤ (i 2 : ℕ) ∧ (i 2 : ℕ) < win0_4.index ⟨0, hN⟩ 2 * 256 + win0_4.xsize (grid0.coords ⟨0, hN⟩) 2
      rw [ix.2.2, sz.2.2]; omega

theorem final_codes (c : Dev nD) : (dats m 0 c).arrAt 5 cfg0.N = codesT (m (c, Proc.devRef .tc main_arg0)) :=
  (dats m 0 c).arrAt_eq_of_cover 5 _ (flushed_codes m c) fun i => by
    have h0 : (i 0 : ℕ) < 12288 := (i 0).isLt
    have h1 : (i 1 : ℕ) < 8192 := (i 1).isLt
    have hN : 0 < grid0.N := by show 0 < 1; omega
    refine ⟨⟨0, hN⟩, flush0_5 _, ?_⟩
    show i ∈ ((View.whole main_v41_1).slice (win0_5.rect ⟨0, hN⟩)).set
    rw [View.set_slice_whole, Rect.mem_set_unit]
    intro a
    have ix := index5 ⟨0, hN⟩
    have sz := size5 ⟨0, hN⟩
    match a with
    | ⟨0, _⟩ =>
      show win0_5.index ⟨0, hN⟩ 0 * 12288 ≤ (i 0 : ℕ) ∧ (i 0 : ℕ) < win0_5.index ⟨0, hN⟩ 0 * 12288 + win0_5.xsize (grid0.coords ⟨0, hN⟩) 0
      rw [ix.1, sz.1]; omega
    | ⟨1, _⟩ =>
      show win0_5.index ⟨0, hN⟩ 1 * 8192 ≤ (i 1 : ℕ) ∧ (i 1 : ℕ) < win0_5.index ⟨0, hN⟩ 1 * 8192 + win0_5.xsize (grid0.coords ⟨0, hN⟩) 1
      rw [ix.2, sz.2]; omega

theorem final_scales (c : Dev nD) : V m c main_v21 = scalesT (m (c, Proc.devRef .tc main_arg0)) := by
  funext y
  refine (congrArg (V m c main_v21) (?_ : y = (ix2 (y 0) (y 1) : S12288x128.Idx))).trans (v21_apply m c (y 0) (y 1))
  funext a
  match a with
  | ⟨0, _⟩ => rfl
  | ⟨1, _⟩ => rfl

/-- The reference's run, read. -/
theorem run : θ_run defs (onTc (τ := τ) (main (F := Ideal))) ⟨m, fun _ => 0, ρ⟩ fun r => ∀ c : Dev nD,
      r.2.mem ((c : Thread nD τ).loc main_v41_0)
        = outT (m (c, Proc.devRef .tc main_arg0)) (m (c, Proc.devRef .tc main_arg1)) (m (c, Proc.devRef .tc main_arg2))
      ∧ r.2.mem ((c : Thread nD τ).loc main_v41_1) = codesT (m (c, Proc.devRef .tc main_arg0))
      ∧ r.2.mem ((c : Thread nD τ).loc main_v21) = scalesT (m (c, Proc.devRef .tc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post4 m r h c).trans (final_out m c), (post5 m r h c).trans (final_codes m c),
    ((h c).2 main_v21 (Pipeline.mem_restRefs_of main_v21 (by decide) (by decide))).trans (final_scales m c),
    kept_main_arg0 m r h c, kept_main_arg1 m r h c, kept_main_arg2 m r h c⟩) (run_main m ρ)

end Cert.ReferenceIdeal.RefValue
-- ==== Proof.Precondition.lean ====
/- WHAT THE PRECONDITION SAYS: the scales of every two neighbouring rows are in range. -/
module

public import proofs.«01_k».proof.Proof.Target
public import proofs.«01_k».proof.Proof.Gen.Pre_groups_in_range

@[expose] public section

set_option maxRecDepth 16384
set_option maxHeartbeats 1000000

noncomputable section

namespace Cert.Pre_groups_in_range

open Facts
open Idealize.ShloMosaic Cert.Scale Cert.Spec Cert.Target

theorem ofBool_one (b : Bool) : BitVec.ofBool b = 1#1 ↔ b = true := by cases b <;> simp

/-- The flags of the precondition, over any magnitudes `P`, `Q` of the even and odd rows and any bounds. -/
def flags [Facts] (P Q : FVec Ideal S6144x1x128 .f32) (lo hi z : FVec Ideal S_ .f32) : IVec S6144x1x128 1 :=
  ori (andi (andi (cmpf .oge P (broadcastInDim S6144x1x128 ![] bcast_S_S6144x1x128 lo)) (cmpf .ole P (broadcastInDim S6144x1x128 ![] bcast_S_S6144x1x128 hi)))
      (ori (andi (cmpf .oge Q (broadcastInDim S6144x1x128 ![] bcast_S_S6144x1x128 lo)) (cmpf .ole Q (broadcastInDim S6144x1x128 ![] bcast_S_S6144x1x128 hi)))
        (cmpf .oeq Q (broadcastInDim S6144x1x128 ![] bcast_S_S6144x1x128 z))))
    (andi (cmpf .oeq P (broadcastInDim S6144x1x128 ![] bcast_S_S6144x1x128 z)) (cmpf .oeq Q (broadcastInDim S6144x1x128 ![] bcast_S_S6144x1x128 z)))

/-- The largest magnitudes of every row's groups, two rows together. -/
def peaks [Facts] (A0 : FVec Ideal S8x1536x8192 .bf16) : FVec Ideal S6144x2x128 .f32 :=
  Host.reduce FloatOps.maximumf (Host.absf (shapeCast S6144x2x128x64 (extf .f32 A0 bitsLt_bf16_f32) shapeCasts_S8x1536x8192_S6144x2x128x64 : FVec Ideal S6144x2x128x64 .f32))
    (constant S_ .f32 0xFF800000#32) reducesTo_S6144x2x128x64_S6144x2x128_d3 h_S_

theorem fn_eq [Facts] (A0 : FVec Ideal S8x1536x8192 .bf16) (A1 : FVec Ideal S16x8192x256 .fp8e4m3) (A2 : FVec Ideal S16x64x2 .f32) :
    fn (F := Ideal) A0 A1 A2 = flags (extractStridedSlice S6144x1x128 ![0, 0, 0] (peaks A0) slices_S6144x2x128_S6144x1x128_0_0_0)
      (extractStridedSlice S6144x1x128 ![0, 1, 0] (peaks A0) slices_S6144x2x128_S6144x1x128_0_1_0)
      (constant S_ .f32 0x04E00000#32) (constant S_ .f32 0x7F7F0000#32) (constant S_ .f32 0x00000000#32) := rfl

theorem flags_one [Facts] (P Q : FVec Ideal S6144x1x128 .f32) (lo hi z : FVec Ideal S_ .f32) (i : S6144x1x128.Idx) (l u n a b : EReal)
    (hl : ∀ j, lo j = l) (hu : ∀ j, hi j = u) (hn : ∀ j, z j = n) (ha : P i = a) (hb : Q i = b) (h : flags P Q lo hi z i = 1#1) :
    ((l ≤ a ∧ a ≤ u) ∧ ((l ≤ b ∧ b ≤ u) ∨ b = n)) ∨ (a = n ∧ b = n) := by
  have e : flags P Q lo hi z i = BitVec.ofBool (decide (l ≤ a)) &&& BitVec.ofBool (decide (a ≤ u))
      &&& (BitVec.ofBool (decide (l ≤ b)) &&& BitVec.ofBool (decide (b ≤ u)) ||| BitVec.ofBool (decide (b = n)))
      ||| BitVec.ofBool (decide (a = n)) &&& BitVec.ofBool (decide (b = n)) := by
    subst ha hb
    have el : lo = fun _ => l := funext hl
    have eu : hi = fun _ => u := funext hu
    have en : z = fun _ => n := funext hn
    subst el eu en
    rfl
  rw [e, BitVec.ofBool_and_ofBool, BitVec.ofBool_and_ofBool, BitVec.ofBool_or_ofBool, BitVec.ofBool_and_ofBool, BitVec.ofBool_and_ofBool,
    BitVec.ofBool_or_ofBool, ofBool_one] at h
  simpa only [Bool.or_eq_true, Bool.and_eq_true, decide_eq_true_eq] using h

theorem peaks_apply [Facts] (A0 : FVec Ideal S8x1536x8192 .bf16) (p g : ℕ) (hp : p < 6144) (hg : g < 128) (b : Fin 2) :
    peaks A0 (ix3 ⟨p, hp⟩ b ⟨g, hg⟩) = peak (row A0 (2 * p + b.val)) g := by
  unfold peaks
  pointwise
  have hbot : Ideal.ofBits .f32 0xFF800000#32 = ⊥ := by simp [Ideal.ofBits, Ideal.ieee]
  rw [hbot]
  unfold peak
  congr 1
  funext x
  have hb := b.isLt
  have hx := x.isLt
  have e : A0 (ix3 ⟨p / 768, by omega⟩ ⟨p % 768 * 2 + b.val, by omega⟩ ⟨g * 64 + x.val, by omega⟩)
      = row A0 (2 * p + b.val) (64 * g + x.val) := by
    unfold row
    congr 1
    rw [ix3_inj]
    exact ⟨Fin.ext (by dsimp only; omega), Fin.ext (by dsimp only; omega), Fin.ext (by dsimp only; omega)⟩
  rw [e]
  rfl

theorem slice0_apply [Facts] (M : FVec Ideal S6144x2x128 .f32) (p : Fin 6144) (g : Fin 128) :
    extractStridedSlice S6144x1x128 ![0, 0, 0] M slices_S6144x2x128_S6144x1x128_0_0_0 (ix3 p 0 g) = M (ix3 p 0 g) := by
  pointwise

theorem slice1_apply [Facts] (M : FVec Ideal S6144x2x128 .f32) (p : Fin 6144) (g : Fin 128) :
    extractStridedSlice S6144x1x128 ![0, 1, 0] M slices_S6144x2x128_S6144x1x128_0_1_0 (ix3 p 0 g) = M (ix3 p 1 g) := by
  pointwise

theorem const_apply (w : BitVec 32) (j : S_.Idx) : (constant S_ .f32 w : FVec Ideal S_ .f32) j = Ideal.ofBits .f32 w := rfl

theorem zero_eq : Ideal.ofBits .f32 0x00000000#32 = 0 := by simp [Ideal.ofBits, Ideal.ieee]

/-- What the precondition gives each pair of rows in each group. -/
theorem good [Facts] (A0 : FVec Ideal S8x1536x8192 .bf16) (A1 : FVec Ideal S16x8192x256 .fp8e4m3) (A2 : FVec Ideal S16x64x2 .f32)
    (h : fn (F := Ideal) A0 A1 A2 = fun _ => 1#1) (p g : ℕ) (hp : p < 6144) (hg : g < 128) :
    GoodRows (row A0 (2 * p)) (row A0 (2 * p + 1)) g := by
  rw [fn_eq] at h
  exact flags_one _ _ _ _ _ (ix3 ⟨p, hp⟩ 0 ⟨g, hg⟩) _ _ 0 _ _ (const_apply _) (const_apply _) (fun j => (const_apply _ j).trans zero_eq)
    ((slice0_apply _ _ _).trans (peaks_apply A0 p g hp hg 0)) ((slice1_apply _ _ _).trans (peaks_apply A0 p g hp hg 1)) (congrFun h _)

end Cert.Pre_groups_in_range
-- ==== Proof.Algebraic.lean ====
/- THE KERNEL AND THE REFERENCE AGREE, all three results, wherever the precondition holds. -/
module

public import proofs.«01_k».proof.Defs
public import proofs.«01_k».proof.Proof.KernelValue
public import proofs.«01_k».proof.Proof.RefValue
public import proofs.«01_k».proof.Proof.Precondition

@[expose] public section

noncomputable section

namespace Cert.Algebraic

open Idealize.ShloMosaic Idealize.ShloMosaic.TcCoe Idealize.SL.Sem Cert.Target

/-- The three results of both programs are the functions of `Proof/Target.lean`. -/
theorem algebraic [Cert.KernelIdeal.Facts] [Cert.ReferenceIdeal.Facts] [Cert.Pre_groups_in_range.Facts] :
    Cert.algebraic_KernelIdeal_ReferenceIdeal_pre_groups_in_range := by
  intro m g m' g' hpre harg
  refine ⟨fun c => outT (m (c, Proc.devRef .tc Cert.KernelIdeal.main_arg0)) (m (c, Proc.devRef .tc Cert.KernelIdeal.main_arg1)) (m (c, Proc.devRef .tc Cert.KernelIdeal.main_arg2)),
    fun c => codesT (m (c, Proc.devRef .tc Cert.KernelIdeal.main_arg0)), fun c => scalesT (m (c, Proc.devRef .tc Cert.KernelIdeal.main_arg0)), ?_, ?_⟩
  · exact Cert.KernelIdeal.Value.run g fun c p q hp hq => Cert.Pre_groups_in_range.good _ _ _ (hpre c) p q hp hq
  · refine (θ_run Cert.ReferenceIdeal.defs _ _).mono (fun r h c => ?_) (Cert.ReferenceIdeal.RefValue.run m' g')
    obtain ⟨h0, h1, h2, k⟩ := h c
    obtain ⟨a0, a1, a2⟩ := harg c
    refine ⟨h0.trans ?_, h1.trans ?_, h2.trans ?_, k⟩
    · exact congr (congr (congrArg outT a0) a1) a2
    · exact congrArg codesT a0
    · exact congrArg scalesT a0

end Cert.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Value
public import proofs.«01_k».proof.Proof.Gen.Pre_groups_in_range
public import proofs.«01_k».proof.Proof.Body
public import proofs.«01_k».proof.Proof.KernelFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The three programs run and leave their arguments alone, and the kernel computes the reference's three results. -/
theorem claim : Cert.Claim :=
  haveI := Cert.KernelIdeal.Gen.facts
  haveI := Cert.ReferenceIdeal.Gen.facts
  haveI := Cert.Pre_groups_in_range.Gen.facts
  ⟨Cert.Kernel.Gen.facts, Cert.KernelIdeal.Gen.facts, Cert.ReferenceIdeal.Gen.facts, Cert.Pre_groups_in_range.Gen.facts,
    fun m ρ _ => Cert.Kernel.Body.frame m ρ, fun m ρ _ => Cert.KernelIdeal.Body.frame m ρ, fun m ρ _ => Cert.KernelIdeal.Body.frame m ρ,
    fun m ρ _ => Cert.ReferenceIdeal.Gen.frame m ρ, fun m ρ _ => Cert.ReferenceIdeal.Gen.frame m ρ, trivial, Cert.Algebraic.algebraic⟩

end Cert.Proof

end
